-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![32, 256, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x32 : Shape := ⟨2, ![256, 32]⟩
abbrev S512x1 : Shape := ⟨2, ![512, 1]⟩
abbrev S2x256x512 : Shape := ⟨3, ![2, 256, 512]⟩
abbrev S512x512 : Shape := ⟨2, ![512, 512]⟩
abbrev S2x512x256 : Shape := ⟨3, ![2, 512, 256]⟩
abbrev S2x480x256 : Shape := ⟨3, ![2, 480, 256]⟩
abbrev S4x2 : Shape := ⟨2, ![4, 2]⟩
abbrev S_ : Shape := ⟨0, ![]⟩
abbrev S1x256x512 : Shape := ⟨3, ![1, 256, 512]⟩
abbrev S256x512 : Shape := ⟨2, ![256, 512]⟩
abbrev S32x256 : Shape := ⟨2, ![32, 256]⟩
abbrev S1x32x256 : Shape := ⟨3, ![1, 32, 256]⟩
abbrev S1x1 : Shape := ⟨2, ![1, 1]⟩
abbrev S1x256x256 : Shape := ⟨3, ![1, 256, 256]⟩
abbrev S256x256 : Shape := ⟨2, ![256, 256]⟩
abbrev S1x128x256 : Shape := ⟨3, ![1, 128, 256]⟩
abbrev S128x256 : Shape := ⟨2, ![128, 256]⟩
abbrev S1x64x256 : Shape := ⟨3, ![1, 64, 256]⟩
abbrev S64x256 : Shape := ⟨2, ![64, 256]⟩

abbrev nBuf : Space → Nat
  | .hbm => 5
  | .vmem => 6
  | .smem => 0
  | _ => 0

abbrev bufTy : (tb : Table) → Fin (tcTables nBuf tb) → BufTy
  | .hbm, ⟨0, _⟩ => ⟨S512x256, .f32⟩
  | .hbm, ⟨1, _⟩ => ⟨S256x32, .f32⟩
  | .hbm, ⟨2, _⟩ => ⟨S512x1, .i32⟩
  | .hbm, ⟨3, _⟩ => ⟨S2x256x512, .f32⟩
  | .hbm, ⟨4, _⟩ => ⟨S512x512, .f32⟩
  | .local _ .vmem, ⟨0, _⟩ => ⟨S512x256, .f32⟩
  | .local _ .vmem, ⟨1, _⟩ => ⟨S512x1, .i32⟩
  | .local _ .vmem, ⟨2, _⟩ => ⟨S2x256x512, .f32⟩
  | .local _ .vmem, ⟨3, _⟩ => ⟨S512x512, .f32⟩
  | .local _ .vmem, ⟨4, _⟩ => ⟨S2x512x256, .bf16⟩
  | .local _ .vmem, ⟨5, _⟩ => ⟨S2x480x256, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_21 : BitVec 32 := 1#32
  let v36 : BitVec 32 := Scalar.xori v2 c1_i32_21
  let c1_i32_23 : BitVec 32 := 1#32
  let v37 : BitVec 32 := Scalar.muli v36 c1_i32_23
  let v38 : BitVec 32 := Scalar.addi c0_i32_24 v37
  v38.toNat
def k0_dev2 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_25 : BitVec 32 := 2#32
  let v39 : BitVec 32 := Scalar.xori v2 c2_i32_25
  let c1_i32_27 : BitVec 32 := 1#32
  let v40 : BitVec 32 := Scalar.muli v39 c1_i32_27
  let v41 : BitVec 32 := Scalar.addi c0_i32_28 v40
  v41.toNat
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_29 : BitVec 32 := 4#32
  let v42 : BitVec 32 := Scalar.xori v2 c4_i32_29
  let c1_i32_31 : BitVec 32 := 1#32
  let v43 : BitVec 32 := Scalar.muli v42 c1_i32_31
  let v44 : BitVec 32 := Scalar.addi c0_i32_32 v43
  v44.toNat
def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_33 : BitVec 32 := 8#32
  let v45 : BitVec 32 := Scalar.xori v2 c8_i32_33
  let c1_i32_35 : BitVec 32 := 1#32
  let v46 : BitVec 32 := Scalar.muli v45 c1_i32_35
  let v47 : BitVec 32 := Scalar.addi c0_i32_36 v46
  v47.toNat
def k0_off1 (d0 : Dev nD) : Fin 3 → Nat :=
  let c0_i32_136 : BitVec 32 := 0#32
  let c0_i32_1 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 32 := Scalar.shrsi v2 c0_i32
  let c1_i32_0 : BitVec 32 := 1#32
  let v4 : BitVec 32 := Scalar.andi v3 c1_i32_0
  let c8_i32 : BitVec 32 := 8#32
  let v5 : BitVec 32 := Scalar.muli v4 c8_i32
  let v6 : BitVec 32 := Scalar.addi c0_i32_1 v5
  let c2_i32 : BitVec 32 := 2#32
  let v7 : BitVec 32 := Scalar.shrsi v2 c2_i32
  let c1_i32_2 : BitVec 32 := 1#32
  let v8 : BitVec 32 := Scalar.andi v7 c1_i32_2
  let c4_i32 : BitVec 32 := 4#32
  let v9 : BitVec 32 := Scalar.muli v8 c4_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c2_i32_5 : BitVec 32 := 2#32
  let v13 : BitVec 32 := Scalar.muli v12 c2_i32_5
  let v14 : BitVec 32 := Scalar.addi v10 v13
  let c3_i32 : BitVec 32 := 3#32
  let v15 : BitVec 32 := Scalar.shrsi v2 c3_i32
  let c1_i32_6 : BitVec 32 := 1#32
  let v16 : BitVec 32 := Scalar.andi v15 c1_i32_6
  let c1_i32_7 : BitVec 32 := 1#32
  let v17 : BitVec 32 := Scalar.muli v16 c1_i32_7
  let v18 : BitVec 32 := Scalar.addi v14 v17
  let c3_i32_132 : BitVec 32 := 3#32
  let v205 : BitVec 32 := Scalar.shrsi v18 c3_i32_132
  let c3_i32_133 : BitVec 32 := 3#32
  let v206 : BitVec 32 := Scalar.shli v205 c3_i32_133
  let c8_i32_134 : BitVec 32 := 8#32
  let v207 : BitVec 32 := Scalar.xori v206 c8_i32_134
  let c32_i32 : BitVec 32 := 32#32
  let v208 : BitVec 32 := Scalar.muli v207 c32_i32
  let c0_i32_146 : BitVec 32 := 0#32
  ![0, v208.toNat, 0]
def k0_dev5 (d0 : Dev nD) : Nat :=
  let c0_i32_143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_135 : BitVec 32 := 1#32
  let v209 : BitVec 32 := Scalar.xori v2 c1_i32_135
  let c1_i32_142 : BitVec 32 := 1#32
  let v210 : BitVec 32 := Scalar.muli v209 c1_i32_142
  let v211 : BitVec 32 := Scalar.addi c0_i32_143 v210
  v211.toNat
def k0_off2 (d0 : Dev nD) : Fin 3 → Nat :=
  let c1_i32_152 : BitVec 32 := 1#32
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_8 : BitVec 32 := 2#32
  let v19 : BitVec 32 := Scalar.shrsi v2 c2_i32_8
  let c1_i32_9 : BitVec 32 := 1#32
  let v20 : BitVec 32 := Scalar.andi v19 c1_i32_9
  let c8_i32_10 : BitVec 32 := 8#32
  let v21 : BitVec 32 := Scalar.muli v20 c8_i32_10
  let v22 : BitVec 32 := Scalar.addi c0_i32_11 v21
  let c0_i32_12 : BitVec 32 := 0#32
  let v23 : BitVec 32 := Scalar.shrsi v2 c0_i32_12
  let c1_i32_13 : BitVec 32 := 1#32
  let v24 : BitVec 32 := Scalar.andi v23 c1_i32_13
  let c4_i32_14 : BitVec 32 := 4#32
  let v25 : BitVec 32 := Scalar.muli v24 c4_i32_14
  let v26 : BitVec 32 := Scalar.addi v22 v25
  let c3_i32_15 : BitVec 32 := 3#32
  let v27 : BitVec 32 := Scalar.shrsi v2 c3_i32_15
  let c1_i32_16 : BitVec 32 := 1#32
  let v28 : BitVec 32 := Scalar.andi v27 c1_i32_16
  let c2_i32_17 : BitVec 32 := 2#32
  let v29 : BitVec 32 := Scalar.muli v28 c2_i32_17
  let v30 : BitVec 32 := Scalar.addi v26 v29
  let c1_i32_18 : BitVec 32 := 1#32
  let v31 : BitVec 32 := Scalar.shrsi v2 c1_i32_18
  let c1_i32_19 : BitVec 32 := 1#32
  let v32 : BitVec 32 := Scalar.andi v31 c1_i32_19
  let c1_i32_20 : BitVec 32 := 1#32
  let v33 : BitVec 32 := Scalar.muli v32 c1_i32_20
  let v34 : BitVec 32 := Scalar.addi v30 v33
  let c3_i32_147 : BitVec 32 := 3#32
  let v220 : BitVec 32 := Scalar.shrsi v34 c3_i32_147
  let c3_i32_148 : BitVec 32 := 3#32
  let v221 : BitVec 32 := Scalar.shli v220 c3_i32_148
  let c8_i32_149 : BitVec 32 := 8#32
  let v222 : BitVec 32 := Scalar.xori v221 c8_i32_149
  let c32_i32_150 : BitVec 32 := 32#32
  let v223 : BitVec 32 := Scalar.muli v222 c32_i32_150
  let c0_i32_162 : BitVec 32 := 0#32
  ![1, v223.toNat, 0]
def k0_dev6 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_151 : BitVec 32 := 4#32
  let v224 : BitVec 32 := Scalar.xori v2 c4_i32_151
  let c1_i32_158 : BitVec 32 := 1#32
  let v225 : BitVec 32 := Scalar.muli v224 c1_i32_158
  let v226 : BitVec 32 := Scalar.addi c0_i32_159 v225
  v226.toNat
def k0_off3 (d0 : Dev nD) : Fin 3 → Nat :=
  let c0_187 : Index := 0#32
  let c0_i32_1 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 32 := Scalar.shrsi v2 c0_i32
  let c1_i32_0 : BitVec 32 := 1#32
  let v4 : BitVec 32 := Scalar.andi v3 c1_i32_0
  let c8_i32 : BitVec 32 := 8#32
  let v5 : BitVec 32 := Scalar.muli v4 c8_i32
  let v6 : BitVec 32 := Scalar.addi c0_i32_1 v5
  let c2_i32 : BitVec 32 := 2#32
  let v7 : BitVec 32 := Scalar.shrsi v2 c2_i32
  let c1_i32_2 : BitVec 32 := 1#32
  let v8 : BitVec 32 := Scalar.andi v7 c1_i32_2
  let c4_i32 : BitVec 32 := 4#32
  let v9 : BitVec 32 := Scalar.muli v8 c4_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c2_i32_5 : BitVec 32 := 2#32
  let v13 : BitVec 32 := Scalar.muli v12 c2_i32_5
  let v14 : BitVec 32 := Scalar.addi v10 v13
  let c3_i32 : BitVec 32 := 3#32
  let v15 : BitVec 32 := Scalar.shrsi v2 c3_i32
  let c1_i32_6 : BitVec 32 := 1#32
  let v16 : BitVec 32 := Scalar.andi v15 c1_i32_6
  let c1_i32_7 : BitVec 32 := 1#32
  let v17 : BitVec 32 := Scalar.muli v16 c1_i32_7
  let v18 : BitVec 32 := Scalar.addi v14 v17
  let c3_i32_184 : BitVec 32 := 3#32
  let v249 : BitVec 32 := Scalar.shrsi v18 c3_i32_184
  let c3_i32_185 : BitVec 32 := 3#32
  let v250 : BitVec 32 := Scalar.shli v249 c3_i32_185
  let c32_i32_186 : BitVec 32 := 32#32
  let v251 : BitVec 32 := Scalar.muli v250 c32_i32_186
  let v252 : Index := Scalar.indexCast v251
  let c0_188 : Index := 0#32
  ![0, v252.toNat, 0]
def k0_off4 (d0 : Dev nD) : Fin 3 → Nat :=
  let c1_218 : Index := 1#32
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_8 : BitVec 32 := 2#32
  let v19 : BitVec 32 := Scalar.shrsi v2 c2_i32_8
  let c1_i32_9 : BitVec 32 := 1#32
  let v20 : BitVec 32 := Scalar.andi v19 c1_i32_9
  let c8_i32_10 : BitVec 32 := 8#32
  let v21 : BitVec 32 := Scalar.muli v20 c8_i32_10
  let v22 : BitVec 32 := Scalar.addi c0_i32_11 v21
  let c0_i32_12 : BitVec 32 := 0#32
  let v23 : BitVec 32 := Scalar.shrsi v2 c0_i32_12
  let c1_i32_13 : BitVec 32 := 1#32
  let v24 : BitVec 32 := Scalar.andi v23 c1_i32_13
  let c4_i32_14 : BitVec 32 := 4#32
  let v25 : BitVec 32 := Scalar.muli v24 c4_i32_14
  let v26 : BitVec 32 := Scalar.addi v22 v25
  let c3_i32_15 : BitVec 32 := 3#32
  let v27 : BitVec 32 := Scalar.shrsi v2 c3_i32_15
  let c1_i32_16 : BitVec 32 := 1#32
  let v28 : BitVec 32 := Scalar.andi v27 c1_i32_16
  let c2_i32_17 : BitVec 32 := 2#32
  let v29 : BitVec 32 := Scalar.muli v28 c2_i32_17
  let v30 : BitVec 32 := Scalar.addi v26 v29
  let c1_i32_18 : BitVec 32 := 1#32
  let v31 : BitVec 32 := Scalar.shrsi v2 c1_i32_18
  let c1_i32_19 : BitVec 32 := 1#32
  let v32 : BitVec 32 := Scalar.andi v31 c1_i32_19
  let c1_i32_20 : BitVec 32 := 1#32
  let v33 : BitVec 32 := Scalar.muli v32 c1_i32_20
  let v34 : BitVec 32 := Scalar.addi v30 v33
  let c3_i32_215 : BitVec 32 := 3#32
  let v279 : BitVec 32 := Scalar.shrsi v34 c3_i32_215
  let c3_i32_216 : BitVec 32 := 3#32
  let v280 : BitVec 32 := Scalar.shli v279 c3_i32_216
  let c32_i32_217 : BitVec 32 := 32#32
  let v281 : BitVec 32 := Scalar.muli v280 c32_i32_217
  let v282 : Index := Scalar.indexCast v281
  let c0_219 : Index := 0#32
  ![1, v282.toNat, 0]
def k0_off5 (d0 : Dev nD) : Fin 3 → Nat :=
  let c0_i32_230 : BitVec 32 := 0#32
  let c0_i32_1 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 32 := Scalar.shrsi v2 c0_i32
  let c1_i32_0 : BitVec 32 := 1#32
  let v4 : BitVec 32 := Scalar.andi v3 c1_i32_0
  let c8_i32 : BitVec 32 := 8#32
  let v5 : BitVec 32 := Scalar.muli v4 c8_i32
  let v6 : BitVec 32 := Scalar.addi c0_i32_1 v5
  let c2_i32 : BitVec 32 := 2#32
  let v7 : BitVec 32 := Scalar.shrsi v2 c2_i32
  let c1_i32_2 : BitVec 32 := 1#32
  let v8 : BitVec 32 := Scalar.andi v7 c1_i32_2
  let c4_i32 : BitVec 32 := 4#32
  let v9 : BitVec 32 := Scalar.muli v8 c4_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c2_i32_5 : BitVec 32 := 2#32
  let v13 : BitVec 32 := Scalar.muli v12 c2_i32_5
  let v14 : BitVec 32 := Scalar.addi v10 v13
  let c3_i32 : BitVec 32 := 3#32
  let v15 : BitVec 32 := Scalar.shrsi v2 c3_i32
  let c1_i32_6 : BitVec 32 := 1#32
  let v16 : BitVec 32 := Scalar.andi v15 c1_i32_6
  let c1_i32_7 : BitVec 32 := 1#32
  let v17 : BitVec 32 := Scalar.muli v16 c1_i32_7
  let v18 : BitVec 32 := Scalar.addi v14 v17
  let c2_i32_225 : BitVec 32 := 2#32
  let v295 : BitVec 32 := Scalar.shrsi v18 c2_i32_225
  let c2_i32_226 : BitVec 32 := 2#32
  let v296 : BitVec 32 := Scalar.shli v295 c2_i32_226
  let c4_i32_227 : BitVec 32 := 4#32
  let v297 : BitVec 32 := Scalar.xori v296 c4_i32_227
  let c32_i32_228 : BitVec 32 := 32#32
  let v298 : BitVec 32 := Scalar.muli v297 c32_i32_228
  let c0_i32_239 : BitVec 32 := 0#32
  ![0, v298.toNat, 0]
def k0_dev7 (d0 : Dev nD) : Nat :=
  let c0_i32_237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_229 : BitVec 32 := 4#32
  let v299 : BitVec 32 := Scalar.xori v2 c4_i32_229
  let c1_i32_236 : BitVec 32 := 1#32
  let v300 : BitVec 32 := Scalar.muli v299 c1_i32_236
  let v301 : BitVec 32 := Scalar.addi c0_i32_237 v300
  v301.toNat
def k0_off6 (d0 : Dev nD) : Fin 3 → Nat :=
  let c1_i32_245 : BitVec 32 := 1#32
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_8 : BitVec 32 := 2#32
  let v19 : BitVec 32 := Scalar.shrsi v2 c2_i32_8
  let c1_i32_9 : BitVec 32 := 1#32
  let v20 : BitVec 32 := Scalar.andi v19 c1_i32_9
  let c8_i32_10 : BitVec 32 := 8#32
  let v21 : BitVec 32 := Scalar.muli v20 c8_i32_10
  let v22 : BitVec 32 := Scalar.addi c0_i32_11 v21
  let c0_i32_12 : BitVec 32 := 0#32
  let v23 : BitVec 32 := Scalar.shrsi v2 c0_i32_12
  let c1_i32_13 : BitVec 32 := 1#32
  let v24 : BitVec 32 := Scalar.andi v23 c1_i32_13
  let c4_i32_14 : BitVec 32 := 4#32
  let v25 : BitVec 32 := Scalar.muli v24 c4_i32_14
  let v26 : BitVec 32 := Scalar.addi v22 v25
  let c3_i32_15 : BitVec 32 := 3#32
  let v27 : BitVec 32 := Scalar.shrsi v2 c3_i32_15
  let c1_i32_16 : BitVec 32 := 1#32
  let v28 : BitVec 32 := Scalar.andi v27 c1_i32_16
  let c2_i32_17 : BitVec 32 := 2#32
  let v29 : BitVec 32 := Scalar.muli v28 c2_i32_17
  let v30 : BitVec 32 := Scalar.addi v26 v29
  let c1_i32_18 : BitVec 32 := 1#32
  let v31 : BitVec 32 := Scalar.shrsi v2 c1_i32_18
  let c1_i32_19 : BitVec 32 := 1#32
  let v32 : BitVec 32 := Scalar.andi v31 c1_i32_19
  let c1_i32_20 : BitVec 32 := 1#32
  let v33 : BitVec 32 := Scalar.muli v32 c1_i32_20
  let v34 : BitVec 32 := Scalar.addi v30 v33
  let c2_i32_240 : BitVec 32 := 2#32
  let v310 : BitVec 32 := Scalar.shrsi v34 c2_i32_240
  let c2_i32_241 : BitVec 32 := 2#32
  let v311 : BitVec 32 := Scalar.shli v310 c2_i32_241
  let c4_i32_242 : BitVec 32 := 4#32
  let v312 : BitVec 32 := Scalar.xori v311 c4_i32_242
  let c32_i32_243 : BitVec 32 := 32#32
  let v313 : BitVec 32 := Scalar.muli v312 c32_i32_243
  let c0_i32_255 : BitVec 32 := 0#32
  ![1, v313.toNat, 0]
def k0_dev8 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_244 : BitVec 32 := 1#32
  let v314 : BitVec 32 := Scalar.xori v2 c1_i32_244
  let c1_i32_251 : BitVec 32 := 1#32
  let v315 : BitVec 32 := Scalar.muli v314 c1_i32_251
  let v316 : BitVec 32 := Scalar.addi c0_i32_252 v315
  v316.toNat
def k0_off7 (d0 : Dev nD) : Fin 3 → Nat :=
  let c0_280 : Index := 0#32
  let c0_i32_1 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 32 := Scalar.shrsi v2 c0_i32
  let c1_i32_0 : BitVec 32 := 1#32
  let v4 : BitVec 32 := Scalar.andi v3 c1_i32_0
  let c8_i32 : BitVec 32 := 8#32
  let v5 : BitVec 32 := Scalar.muli v4 c8_i32
  let v6 : BitVec 32 := Scalar.addi c0_i32_1 v5
  let c2_i32 : BitVec 32 := 2#32
  let v7 : BitVec 32 := Scalar.shrsi v2 c2_i32
  let c1_i32_2 : BitVec 32 := 1#32
  let v8 : BitVec 32 := Scalar.andi v7 c1_i32_2
  let c4_i32 : BitVec 32 := 4#32
  let v9 : BitVec 32 := Scalar.muli v8 c4_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c2_i32_5 : BitVec 32 := 2#32
  let v13 : BitVec 32 := Scalar.muli v12 c2_i32_5
  let v14 : BitVec 32 := Scalar.addi v10 v13
  let c3_i32 : BitVec 32 := 3#32
  let v15 : BitVec 32 := Scalar.shrsi v2 c3_i32
  let c1_i32_6 : BitVec 32 := 1#32
  let v16 : BitVec 32 := Scalar.andi v15 c1_i32_6
  let c1_i32_7 : BitVec 32 := 1#32
  let v17 : BitVec 32 := Scalar.muli v16 c1_i32_7
  let v18 : BitVec 32 := Scalar.addi v14 v17
  let c2_i32_277 : BitVec 32 := 2#32
  let v339 : BitVec 32 := Scalar.shrsi v18 c2_i32_277
  let c2_i32_278 : BitVec 32 := 2#32
  let v340 : BitVec 32 := Scalar.shli v339 c2_i32_278
  let c32_i32_279 : BitVec 32 := 32#32
  let v341 : BitVec 32 := Scalar.muli v340 c32_i32_279
  let v342 : Index := Scalar.indexCast v341
  let c0_281 : Index := 0#32
  ![0, v342.toNat, 0]
def k0_off8 (d0 : Dev nD) : Fin 3 → Nat :=
  let c1_311 : Index := 1#32
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_8 : BitVec 32 := 2#32
  let v19 : BitVec 32 := Scalar.shrsi v2 c2_i32_8
  let c1_i32_9 : BitVec 32 := 1#32
  let v20 : BitVec 32 := Scalar.andi v19 c1_i32_9
  let c8_i32_10 : BitVec 32 := 8#32
  let v21 : BitVec 32 := Scalar.muli v20 c8_i32_10
  let v22 : BitVec 32 := Scalar.addi c0_i32_11 v21
  let c0_i32_12 : BitVec 32 := 0#32
  let v23 : BitVec 32 := Scalar.shrsi v2 c0_i32_12
  let c1_i32_13 : BitVec 32 := 1#32
  let v24 : BitVec 32 := Scalar.andi v23 c1_i32_13
  let c4_i32_14 : BitVec 32 := 4#32
  let v25 : BitVec 32 := Scalar.muli v24 c4_i32_14
  let v26 : BitVec 32 := Scalar.addi v22 v25
  let c3_i32_15 : BitVec 32 := 3#32
  let v27 : BitVec 32 := Scalar.shrsi v2 c3_i32_15
  let c1_i32_16 : BitVec 32 := 1#32
  let v28 : BitVec 32 := Scalar.andi v27 c1_i32_16
  let c2_i32_17 : BitVec 32 := 2#32
  let v29 : BitVec 32 := Scalar.muli v28 c2_i32_17
  let v30 : BitVec 32 := Scalar.addi v26 v29
  let c1_i32_18 : BitVec 32 := 1#32
  let v31 : BitVec 32 := Scalar.shrsi v2 c1_i32_18
  let c1_i32_19 : BitVec 32 := 1#32
  let v32 : BitVec 32 := Scalar.andi v31 c1_i32_19
  let c1_i32_20 : BitVec 32 := 1#32
  let v33 : BitVec 32 := Scalar.muli v32 c1_i32_20
  let v34 : BitVec 32 := Scalar.addi v30 v33
  let c2_i32_308 : BitVec 32 := 2#32
  let v369 : BitVec 32 := Scalar.shrsi v34 c2_i32_308
  let c2_i32_309 : BitVec 32 := 2#32
  let v370 : BitVec 32 := Scalar.shli v369 c2_i32_309
  let c32_i32_310 : BitVec 32 := 32#32
  let v371 : BitVec 32 := Scalar.muli v370 c32_i32_310
  let v372 : Index := Scalar.indexCast v371
  let c0_312 : Index := 0#32
  ![1, v372.toNat, 0]
def k0_off9 (d0 : Dev nD) : Fin 3 → Nat :=
  let c0_i32_323 : BitVec 32 := 0#32
  let c0_i32_1 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 32 := Scalar.shrsi v2 c0_i32
  let c1_i32_0 : BitVec 32 := 1#32
  let v4 : BitVec 32 := Scalar.andi v3 c1_i32_0
  let c8_i32 : BitVec 32 := 8#32
  let v5 : BitVec 32 := Scalar.muli v4 c8_i32
  let v6 : BitVec 32 := Scalar.addi c0_i32_1 v5
  let c2_i32 : BitVec 32 := 2#32
  let v7 : BitVec 32 := Scalar.shrsi v2 c2_i32
  let c1_i32_2 : BitVec 32 := 1#32
  let v8 : BitVec 32 := Scalar.andi v7 c1_i32_2
  let c4_i32 : BitVec 32 := 4#32
  let v9 : BitVec 32 := Scalar.muli v8 c4_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c2_i32_5 : BitVec 32 := 2#32
  let v13 : BitVec 32 := Scalar.muli v12 c2_i32_5
  let v14 : BitVec 32 := Scalar.addi v10 v13
  let c3_i32 : BitVec 32 := 3#32
  let v15 : BitVec 32 := Scalar.shrsi v2 c3_i32
  let c1_i32_6 : BitVec 32 := 1#32
  let v16 : BitVec 32 := Scalar.andi v15 c1_i32_6
  let c1_i32_7 : BitVec 32 := 1#32
  let v17 : BitVec 32 := Scalar.muli v16 c1_i32_7
  let v18 : BitVec 32 := Scalar.addi v14 v17
  let c1_i32_318 : BitVec 32 := 1#32
  let v385 : BitVec 32 := Scalar.shrsi v18 c1_i32_318
  let c1_i32_319 : BitVec 32 := 1#32
  let v386 : BitVec 32 := Scalar.shli v385 c1_i32_319
  let c2_i32_320 : BitVec 32 := 2#32
  let v387 : BitVec 32 := Scalar.xori v386 c2_i32_320
  let c32_i32_321 : BitVec 32 := 32#32
  let v388 : BitVec 32 := Scalar.muli v387 c32_i32_321
  let c0_i32_332 : BitVec 32 := 0#32
  ![0, v388.toNat, 0]
def k0_dev9 (d0 : Dev nD) : Nat :=
  let c0_i32_330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_322 : BitVec 32 := 2#32
  let v389 : BitVec 32 := Scalar.xori v2 c2_i32_322
  let c1_i32_329 : BitVec 32 := 1#32
  let v390 : BitVec 32 := Scalar.muli v389 c1_i32_329
  let v391 : BitVec 32 := Scalar.addi c0_i32_330 v390
  v391.toNat
def k0_off10 (d0 : Dev nD) : Fin 3 → Nat :=
  let c1_i32_338 : BitVec 32 := 1#32
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_8 : BitVec 32 := 2#32
  let v19 : BitVec 32 := Scalar.shrsi v2 c2_i32_8
  let c1_i32_9 : BitVec 32 := 1#32
  let v20 : BitVec 32 := Scalar.andi v19 c1_i32_9
  let c8_i32_10 : BitVec 32 := 8#32
  let v21 : BitVec 32 := Scalar.muli v20 c8_i32_10
  let v22 : BitVec 32 := Scalar.addi c0_i32_11 v21
  let c0_i32_12 : BitVec 32 := 0#32
  let v23 : BitVec 32 := Scalar.shrsi v2 c0_i32_12
  let c1_i32_13 : BitVec 32 := 1#32
  let v24 : BitVec 32 := Scalar.andi v23 c1_i32_13
  let c4_i32_14 : BitVec 32 := 4#32
  let v25 : BitVec 32 := Scalar.muli v24 c4_i32_14
  let v26 : BitVec 32 := Scalar.addi v22 v25
  let c3_i32_15 : BitVec 32 := 3#32
  let v27 : BitVec 32 := Scalar.shrsi v2 c3_i32_15
  let c1_i32_16 : BitVec 32 := 1#32
  let v28 : BitVec 32 := Scalar.andi v27 c1_i32_16
  let c2_i32_17 : BitVec 32 := 2#32
  let v29 : BitVec 32 := Scalar.muli v28 c2_i32_17
  let v30 : BitVec 32 := Scalar.addi v26 v29
  let c1_i32_18 : BitVec 32 := 1#32
  let v31 : BitVec 32 := Scalar.shrsi v2 c1_i32_18
  let c1_i32_19 : BitVec 32 := 1#32
  let v32 : BitVec 32 := Scalar.andi v31 c1_i32_19
  let c1_i32_20 : BitVec 32 := 1#32
  let v33 : BitVec 32 := Scalar.muli v32 c1_i32_20
  let v34 : BitVec 32 := Scalar.addi v30 v33
  let c1_i32_333 : BitVec 32 := 1#32
  let v400 : BitVec 32 := Scalar.shrsi v34 c1_i32_333
  let c1_i32_334 : BitVec 32 := 1#32
  let v401 : BitVec 32 := Scalar.shli v400 c1_i32_334
  let c2_i32_335 : BitVec 32 := 2#32
  let v402 : BitVec 32 := Scalar.xori v401 c2_i32_335
  let c32_i32_336 : BitVec 32 := 32#32
  let v403 : BitVec 32 := Scalar.muli v402 c32_i32_336
  let c0_i32_348 : BitVec 32 := 0#32
  ![1, v403.toNat, 0]
def k0_dev10 (d0 : Dev nD) : Nat :=
  let c0_i32_345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_337 : BitVec 32 := 8#32
  let v404 : BitVec 32 := Scalar.xori v2 c8_i32_337
  let c1_i32_344 : BitVec 32 := 1#32
  let v405 : BitVec 32 := Scalar.muli v404 c1_i32_344
  let v406 : BitVec 32 := Scalar.addi c0_i32_345 v405
  v406.toNat
def k0_off11 (d0 : Dev nD) : Fin 3 → Nat :=
  let c0_373 : Index := 0#32
  let c0_i32_1 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 32 := Scalar.shrsi v2 c0_i32
  let c1_i32_0 : BitVec 32 := 1#32
  let v4 : BitVec 32 := Scalar.andi v3 c1_i32_0
  let c8_i32 : BitVec 32 := 8#32
  let v5 : BitVec 32 := Scalar.muli v4 c8_i32
  let v6 : BitVec 32 := Scalar.addi c0_i32_1 v5
  let c2_i32 : BitVec 32 := 2#32
  let v7 : BitVec 32 := Scalar.shrsi v2 c2_i32
  let c1_i32_2 : BitVec 32 := 1#32
  let v8 : BitVec 32 := Scalar.andi v7 c1_i32_2
  let c4_i32 : BitVec 32 := 4#32
  let v9 : BitVec 32 := Scalar.muli v8 c4_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c2_i32_5 : BitVec 32 := 2#32
  let v13 : BitVec 32 := Scalar.muli v12 c2_i32_5
  let v14 : BitVec 32 := Scalar.addi v10 v13
  let c3_i32 : BitVec 32 := 3#32
  let v15 : BitVec 32 := Scalar.shrsi v2 c3_i32
  let c1_i32_6 : BitVec 32 := 1#32
  let v16 : BitVec 32 := Scalar.andi v15 c1_i32_6
  let c1_i32_7 : BitVec 32 := 1#32
  let v17 : BitVec 32 := Scalar.muli v16 c1_i32_7
  let v18 : BitVec 32 := Scalar.addi v14 v17
  let c1_i32_370 : BitVec 32 := 1#32
  let v429 : BitVec 32 := Scalar.shrsi v18 c1_i32_370
  let c1_i32_371 : BitVec 32 := 1#32
  let v430 : BitVec 32 := Scalar.shli v429 c1_i32_371
  let c32_i32_372 : BitVec 32 := 32#32
  let v431 : BitVec 32 := Scalar.muli v430 c32_i32_372
  let v432 : Index := Scalar.indexCast v431
  let c0_374 : Index := 0#32
  ![0, v432.toNat, 0]
def k0_off12 (d0 : Dev nD) : Fin 3 → Nat :=
  let c1_404 : Index := 1#32
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_8 : BitVec 32 := 2#32
  let v19 : BitVec 32 := Scalar.shrsi v2 c2_i32_8
  let c1_i32_9 : BitVec 32 := 1#32
  let v20 : BitVec 32 := Scalar.andi v19 c1_i32_9
  let c8_i32_10 : BitVec 32 := 8#32
  let v21 : BitVec 32 := Scalar.muli v20 c8_i32_10
  let v22 : BitVec 32 := Scalar.addi c0_i32_11 v21
  let c0_i32_12 : BitVec 32 := 0#32
  let v23 : BitVec 32 := Scalar.shrsi v2 c0_i32_12
  let c1_i32_13 : BitVec 32 := 1#32
  let v24 : BitVec 32 := Scalar.andi v23 c1_i32_13
  let c4_i32_14 : BitVec 32 := 4#32
  let v25 : BitVec 32 := Scalar.muli v24 c4_i32_14
  let v26 : BitVec 32 := Scalar.addi v22 v25
  let c3_i32_15 : BitVec 32 := 3#32
  let v27 : BitVec 32 := Scalar.shrsi v2 c3_i32_15
  let c1_i32_16 : BitVec 32 := 1#32
  let v28 : BitVec 32 := Scalar.andi v27 c1_i32_16
  let c2_i32_17 : BitVec 32 := 2#32
  let v29 : BitVec 32 := Scalar.muli v28 c2_i32_17
  let v30 : BitVec 32 := Scalar.addi v26 v29
  let c1_i32_18 : BitVec 32 := 1#32
  let v31 : BitVec 32 := Scalar.shrsi v2 c1_i32_18
  let c1_i32_19 : BitVec 32 := 1#32
  let v32 : BitVec 32 := Scalar.andi v31 c1_i32_19
  let c1_i32_20 : BitVec 32 := 1#32
  let v33 : BitVec 32 := Scalar.muli v32 c1_i32_20
  let v34 : BitVec 32 := Scalar.addi v30 v33
  let c1_i32_401 : BitVec 32 := 1#32
  let v459 : BitVec 32 := Scalar.shrsi v34 c1_i32_401
  let c1_i32_402 : BitVec 32 := 1#32
  let v460 : BitVec 32 := Scalar.shli v459 c1_i32_402
  let c32_i32_403 : BitVec 32 := 32#32
  let v461 : BitVec 32 := Scalar.muli v460 c32_i32_403
  let v462 : Index := Scalar.indexCast v461
  let c0_405 : Index := 0#32
  ![1, v462.toNat, 0]
def k0_off13 (d0 : Dev nD) : Fin 3 → Nat :=
  let c0_i32_416 : BitVec 32 := 0#32
  let c0_i32_1 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 32 := Scalar.shrsi v2 c0_i32
  let c1_i32_0 : BitVec 32 := 1#32
  let v4 : BitVec 32 := Scalar.andi v3 c1_i32_0
  let c8_i32 : BitVec 32 := 8#32
  let v5 : BitVec 32 := Scalar.muli v4 c8_i32
  let v6 : BitVec 32 := Scalar.addi c0_i32_1 v5
  let c2_i32 : BitVec 32 := 2#32
  let v7 : BitVec 32 := Scalar.shrsi v2 c2_i32
  let c1_i32_2 : BitVec 32 := 1#32
  let v8 : BitVec 32 := Scalar.andi v7 c1_i32_2
  let c4_i32 : BitVec 32 := 4#32
  let v9 : BitVec 32 := Scalar.muli v8 c4_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c2_i32_5 : BitVec 32 := 2#32
  let v13 : BitVec 32 := Scalar.muli v12 c2_i32_5
  let v14 : BitVec 32 := Scalar.addi v10 v13
  let c3_i32 : BitVec 32 := 3#32
  let v15 : BitVec 32 := Scalar.shrsi v2 c3_i32
  let c1_i32_6 : BitVec 32 := 1#32
  let v16 : BitVec 32 := Scalar.andi v15 c1_i32_6
  let c1_i32_7 : BitVec 32 := 1#32
  let v17 : BitVec 32 := Scalar.muli v16 c1_i32_7
  let v18 : BitVec 32 := Scalar.addi v14 v17
  let c0_i32_411 : BitVec 32 := 0#32
  let v475 : BitVec 32 := Scalar.shrsi v18 c0_i32_411
  let c0_i32_412 : BitVec 32 := 0#32
  let v476 : BitVec 32 := Scalar.shli v475 c0_i32_412
  let c1_i32_413 : BitVec 32 := 1#32
  let v477 : BitVec 32 := Scalar.xori v476 c1_i32_413
  let c32_i32_414 : BitVec 32 := 32#32
  let v478 : BitVec 32 := Scalar.muli v477 c32_i32_414
  let c0_i32_425 : BitVec 32 := 0#32
  ![0, v478.toNat, 0]
def k0_dev11 (d0 : Dev nD) : Nat :=
  let c0_i32_423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_415 : BitVec 32 := 8#32
  let v479 : BitVec 32 := Scalar.xori v2 c8_i32_415
  let c1_i32_422 : BitVec 32 := 1#32
  let v480 : BitVec 32 := Scalar.muli v479 c1_i32_422
  let v481 : BitVec 32 := Scalar.addi c0_i32_423 v480
  v481.toNat
def k0_off14 (d0 : Dev nD) : Fin 3 → Nat :=
  let c1_i32_431 : BitVec 32 := 1#32
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_8 : BitVec 32 := 2#32
  let v19 : BitVec 32 := Scalar.shrsi v2 c2_i32_8
  let c1_i32_9 : BitVec 32 := 1#32
  let v20 : BitVec 32 := Scalar.andi v19 c1_i32_9
  let c8_i32_10 : BitVec 32 := 8#32
  let v21 : BitVec 32 := Scalar.muli v20 c8_i32_10
  let v22 : BitVec 32 := Scalar.addi c0_i32_11 v21
  let c0_i32_12 : BitVec 32 := 0#32
  let v23 : BitVec 32 := Scalar.shrsi v2 c0_i32_12
  let c1_i32_13 : BitVec 32 := 1#32
  let v24 : BitVec 32 := Scalar.andi v23 c1_i32_13
  let c4_i32_14 : BitVec 32 := 4#32
  let v25 : BitVec 32 := Scalar.muli v24 c4_i32_14
  let v26 : BitVec 32 := Scalar.addi v22 v25
  let c3_i32_15 : BitVec 32 := 3#32
  let v27 : BitVec 32 := Scalar.shrsi v2 c3_i32_15
  let c1_i32_16 : BitVec 32 := 1#32
  let v28 : BitVec 32 := Scalar.andi v27 c1_i32_16
  let c2_i32_17 : BitVec 32 := 2#32
  let v29 : BitVec 32 := Scalar.muli v28 c2_i32_17
  let v30 : BitVec 32 := Scalar.addi v26 v29
  let c1_i32_18 : BitVec 32 := 1#32
  let v31 : BitVec 32 := Scalar.shrsi v2 c1_i32_18
  let c1_i32_19 : BitVec 32 := 1#32
  let v32 : BitVec 32 := Scalar.andi v31 c1_i32_19
  let c1_i32_20 : BitVec 32 := 1#32
  let v33 : BitVec 32 := Scalar.muli v32 c1_i32_20
  let v34 : BitVec 32 := Scalar.addi v30 v33
  let c0_i32_426 : BitVec 32 := 0#32
  let v490 : BitVec 32 := Scalar.shrsi v34 c0_i32_426
  let c0_i32_427 : BitVec 32 := 0#32
  let v491 : BitVec 32 := Scalar.shli v490 c0_i32_427
  let c1_i32_428 : BitVec 32 := 1#32
  let v492 : BitVec 32 := Scalar.xori v491 c1_i32_428
  let c32_i32_429 : BitVec 32 := 32#32
  let v493 : BitVec 32 := Scalar.muli v492 c32_i32_429
  let c0_i32_441 : BitVec 32 := 0#32
  ![1, v493.toNat, 0]
def k0_dev12 (d0 : Dev nD) : Nat :=
  let c0_i32_438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_430 : BitVec 32 := 2#32
  let v494 : BitVec 32 := Scalar.xori v2 c2_i32_430
  let c1_i32_437 : BitVec 32 := 1#32
  let v495 : BitVec 32 := Scalar.muli v494 c1_i32_437
  let v496 : BitVec 32 := Scalar.addi c0_i32_438 v495
  v496.toNat
def k0_off15 (d0 : Dev nD) : Fin 3 → Nat :=
  let c0_466 : Index := 0#32
  let c0_i32_1 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 32 := Scalar.shrsi v2 c0_i32
  let c1_i32_0 : BitVec 32 := 1#32
  let v4 : BitVec 32 := Scalar.andi v3 c1_i32_0
  let c8_i32 : BitVec 32 := 8#32
  let v5 : BitVec 32 := Scalar.muli v4 c8_i32
  let v6 : BitVec 32 := Scalar.addi c0_i32_1 v5
  let c2_i32 : BitVec 32 := 2#32
  let v7 : BitVec 32 := Scalar.shrsi v2 c2_i32
  let c1_i32_2 : BitVec 32 := 1#32
  let v8 : BitVec 32 := Scalar.andi v7 c1_i32_2
  let c4_i32 : BitVec 32 := 4#32
  let v9 : BitVec 32 := Scalar.muli v8 c4_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c2_i32_5 : BitVec 32 := 2#32
  let v13 : BitVec 32 := Scalar.muli v12 c2_i32_5
  let v14 : BitVec 32 := Scalar.addi v10 v13
  let c3_i32 : BitVec 32 := 3#32
  let v15 : BitVec 32 := Scalar.shrsi v2 c3_i32
  let c1_i32_6 : BitVec 32 := 1#32
  let v16 : BitVec 32 := Scalar.andi v15 c1_i32_6
  let c1_i32_7 : BitVec 32 := 1#32
  let v17 : BitVec 32 := Scalar.muli v16 c1_i32_7
  let v18 : BitVec 32 := Scalar.addi v14 v17
  let c0_i32_463 : BitVec 32 := 0#32
  let v519 : BitVec 32 := Scalar.shrsi v18 c0_i32_463
  let c0_i32_464 : BitVec 32 := 0#32
  let v520 : BitVec 32 := Scalar.shli v519 c0_i32_464
  let c32_i32_465 : BitVec 32 := 32#32
  let v521 : BitVec 32 := Scalar.muli v520 c32_i32_465
  let v522 : Index := Scalar.indexCast v521
  let c0_467 : Index := 0#32
  ![0, v522.toNat, 0]
def k0_off16 (d0 : Dev nD) : Fin 3 → Nat :=
  let c1_497 : Index := 1#32
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_8 : BitVec 32 := 2#32
  let v19 : BitVec 32 := Scalar.shrsi v2 c2_i32_8
  let c1_i32_9 : BitVec 32 := 1#32
  let v20 : BitVec 32 := Scalar.andi v19 c1_i32_9
  let c8_i32_10 : BitVec 32 := 8#32
  let v21 : BitVec 32 := Scalar.muli v20 c8_i32_10
  let v22 : BitVec 32 := Scalar.addi c0_i32_11 v21
  let c0_i32_12 : BitVec 32 := 0#32
  let v23 : BitVec 32 := Scalar.shrsi v2 c0_i32_12
  let c1_i32_13 : BitVec 32 := 1#32
  let v24 : BitVec 32 := Scalar.andi v23 c1_i32_13
  let c4_i32_14 : BitVec 32 := 4#32
  let v25 : BitVec 32 := Scalar.muli v24 c4_i32_14
  let v26 : BitVec 32 := Scalar.addi v22 v25
  let c3_i32_15 : BitVec 32 := 3#32
  let v27 : BitVec 32 := Scalar.shrsi v2 c3_i32_15
  let c1_i32_16 : BitVec 32 := 1#32
  let v28 : BitVec 32 := Scalar.andi v27 c1_i32_16
  let c2_i32_17 : BitVec 32 := 2#32
  let v29 : BitVec 32 := Scalar.muli v28 c2_i32_17
  let v30 : BitVec 32 := Scalar.addi v26 v29
  let c1_i32_18 : BitVec 32 := 1#32
  let v31 : BitVec 32 := Scalar.shrsi v2 c1_i32_18
  let c1_i32_19 : BitVec 32 := 1#32
  let v32 : BitVec 32 := Scalar.andi v31 c1_i32_19
  let c1_i32_20 : BitVec 32 := 1#32
  let v33 : BitVec 32 := Scalar.muli v32 c1_i32_20
  let v34 : BitVec 32 := Scalar.addi v30 v33
  let c0_i32_494 : BitVec 32 := 0#32
  let v549 : BitVec 32 := Scalar.shrsi v34 c0_i32_494
  let c0_i32_495 : BitVec 32 := 0#32
  let v550 : BitVec 32 := Scalar.shli v549 c0_i32_495
  let c32_i32_496 : BitVec 32 := 32#32
  let v551 : BitVec 32 := Scalar.muli v550 c32_i32_496
  let v552 : Index := Scalar.indexCast v551
  let c0_498 : Index := 0#32
  ![1, v552.toNat, 0]
def k0_off17 (d0 : Dev nD) : Fin 3 → Nat :=
  let c0_i32_509 : BitVec 32 := 0#32
  let c0_i32_1 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 32 := Scalar.shrsi v2 c0_i32
  let c1_i32_0 : BitVec 32 := 1#32
  let v4 : BitVec 32 := Scalar.andi v3 c1_i32_0
  let c8_i32 : BitVec 32 := 8#32
  let v5 : BitVec 32 := Scalar.muli v4 c8_i32
  let v6 : BitVec 32 := Scalar.addi c0_i32_1 v5
  let c2_i32 : BitVec 32 := 2#32
  let v7 : BitVec 32 := Scalar.shrsi v2 c2_i32
  let c1_i32_2 : BitVec 32 := 1#32
  let v8 : BitVec 32 := Scalar.andi v7 c1_i32_2
  let c4_i32 : BitVec 32 := 4#32
  let v9 : BitVec 32 := Scalar.muli v8 c4_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c2_i32_5 : BitVec 32 := 2#32
  let v13 : BitVec 32 := Scalar.muli v12 c2_i32_5
  let v14 : BitVec 32 := Scalar.addi v10 v13
  let c3_i32 : BitVec 32 := 3#32
  let v15 : BitVec 32 := Scalar.shrsi v2 c3_i32
  let c1_i32_6 : BitVec 32 := 1#32
  let v16 : BitVec 32 := Scalar.andi v15 c1_i32_6
  let c1_i32_7 : BitVec 32 := 1#32
  let v17 : BitVec 32 := Scalar.muli v16 c1_i32_7
  let v18 : BitVec 32 := Scalar.addi v14 v17
  let c0_i32_504 : BitVec 32 := 0#32
  let v565 : BitVec 32 := Scalar.shrsi v18 c0_i32_504
  let c0_i32_505 : BitVec 32 := 0#32
  let v566 : BitVec 32 := Scalar.shli v565 c0_i32_505
  let c32_i32_506 : BitVec 32 := 32#32
  let v567 : BitVec 32 := Scalar.muli v566 c32_i32_506
  let c0_i32_516 : BitVec 32 := 0#32
  ![0, v567.toNat, 0]
def k0_dev13 (d0 : Dev nD) : Nat :=
  let c0_i32_515 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_507 : BitVec 32 := 8#32
  let v568 : BitVec 32 := Scalar.xori v2 c8_i32_507
  let c1_i32_514 : BitVec 32 := 1#32
  let v569 : BitVec 32 := Scalar.muli v568 c1_i32_514
  let v570 : BitVec 32 := Scalar.addi c0_i32_515 v569
  v570.toNat
def k0_off18 (d0 : Dev nD) : Fin 3 → Nat :=
  let c1_i32_523 : BitVec 32 := 1#32
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_8 : BitVec 32 := 2#32
  let v19 : BitVec 32 := Scalar.shrsi v2 c2_i32_8
  let c1_i32_9 : BitVec 32 := 1#32
  let v20 : BitVec 32 := Scalar.andi v19 c1_i32_9
  let c8_i32_10 : BitVec 32 := 8#32
  let v21 : BitVec 32 := Scalar.muli v20 c8_i32_10
  let v22 : BitVec 32 := Scalar.addi c0_i32_11 v21
  let c0_i32_12 : BitVec 32 := 0#32
  let v23 : BitVec 32 := Scalar.shrsi v2 c0_i32_12
  let c1_i32_13 : BitVec 32 := 1#32
  let v24 : BitVec 32 := Scalar.andi v23 c1_i32_13
  let c4_i32_14 : BitVec 32 := 4#32
  let v25 : BitVec 32 := Scalar.muli v24 c4_i32_14
  let v26 : BitVec 32 := Scalar.addi v22 v25
  let c3_i32_15 : BitVec 32 := 3#32
  let v27 : BitVec 32 := Scalar.shrsi v2 c3_i32_15
  let c1_i32_16 : BitVec 32 := 1#32
  let v28 : BitVec 32 := Scalar.andi v27 c1_i32_16
  let c2_i32_17 : BitVec 32 := 2#32
  let v29 : BitVec 32 := Scalar.muli v28 c2_i32_17
  let v30 : BitVec 32 := Scalar.addi v26 v29
  let c1_i32_18 : BitVec 32 := 1#32
  let v31 : BitVec 32 := Scalar.shrsi v2 c1_i32_18
  let c1_i32_19 : BitVec 32 := 1#32
  let v32 : BitVec 32 := Scalar.andi v31 c1_i32_19
  let c1_i32_20 : BitVec 32 := 1#32
  let v33 : BitVec 32 := Scalar.muli v32 c1_i32_20
  let v34 : BitVec 32 := Scalar.addi v30 v33
  let c0_i32_518 : BitVec 32 := 0#32
  let v579 : BitVec 32 := Scalar.shrsi v34 c0_i32_518
  let c0_i32_519 : BitVec 32 := 0#32
  let v580 : BitVec 32 := Scalar.shli v579 c0_i32_519
  let c32_i32_520 : BitVec 32 := 32#32
  let v581 : BitVec 32 := Scalar.muli v580 c32_i32_520
  let c0_i32_530 : BitVec 32 := 0#32
  ![1, v581.toNat, 0]
def k0_dev14 (d0 : Dev nD) : Nat :=
  let c0_i32_529 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_521 : BitVec 32 := 2#32
  let v582 : BitVec 32 := Scalar.xori v2 c2_i32_521
  let c1_i32_528 : BitVec 32 := 1#32
  let v583 : BitVec 32 := Scalar.muli v582 c1_i32_528
  let v584 : BitVec 32 := Scalar.addi c0_i32_529 v583
  v584.toNat
def k0_off19 (d0 : Dev nD) : Fin 3 → Nat :=
  let c0_i32_575 : BitVec 32 := 0#32
  let c0_i32_1 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 32 := Scalar.shrsi v2 c0_i32
  let c1_i32_0 : BitVec 32 := 1#32
  let v4 : BitVec 32 := Scalar.andi v3 c1_i32_0
  let c8_i32 : BitVec 32 := 8#32
  let v5 : BitVec 32 := Scalar.muli v4 c8_i32
  let v6 : BitVec 32 := Scalar.addi c0_i32_1 v5
  let c2_i32 : BitVec 32 := 2#32
  let v7 : BitVec 32 := Scalar.shrsi v2 c2_i32
  let c1_i32_2 : BitVec 32 := 1#32
  let v8 : BitVec 32 := Scalar.andi v7 c1_i32_2
  let c4_i32 : BitVec 32 := 4#32
  let v9 : BitVec 32 := Scalar.muli v8 c4_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c2_i32_5 : BitVec 32 := 2#32
  let v13 : BitVec 32 := Scalar.muli v12 c2_i32_5
  let v14 : BitVec 32 := Scalar.addi v10 v13
  let c3_i32 : BitVec 32 := 3#32
  let v15 : BitVec 32 := Scalar.shrsi v2 c3_i32
  let c1_i32_6 : BitVec 32 := 1#32
  let v16 : BitVec 32 := Scalar.andi v15 c1_i32_6
  let c1_i32_7 : BitVec 32 := 1#32
  let v17 : BitVec 32 := Scalar.muli v16 c1_i32_7
  let v18 : BitVec 32 := Scalar.addi v14 v17
  let c1_i32_570 : BitVec 32 := 1#32
  let v621 : BitVec 32 := Scalar.shrsi v18 c1_i32_570
  let c1_i32_571 : BitVec 32 := 1#32
  let v622 : BitVec 32 := Scalar.shli v621 c1_i32_571
  let c32_i32_572 : BitVec 32 := 32#32
  let v623 : BitVec 32 := Scalar.muli v622 c32_i32_572
  let c0_i32_582 : BitVec 32 := 0#32
  ![0, v623.toNat, 0]
def k0_dev15 (d0 : Dev nD) : Nat :=
  let c0_i32_581 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_573 : BitVec 32 := 2#32
  let v624 : BitVec 32 := Scalar.xori v2 c2_i32_573
  let c1_i32_580 : BitVec 32 := 1#32
  let v625 : BitVec 32 := Scalar.muli v624 c1_i32_580
  let v626 : BitVec 32 := Scalar.addi c0_i32_581 v625
  v626.toNat
def k0_off20 (d0 : Dev nD) : Fin 3 → Nat :=
  let c1_i32_589 : BitVec 32 := 1#32
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_8 : BitVec 32 := 2#32
  let v19 : BitVec 32 := Scalar.shrsi v2 c2_i32_8
  let c1_i32_9 : BitVec 32 := 1#32
  let v20 : BitVec 32 := Scalar.andi v19 c1_i32_9
  let c8_i32_10 : BitVec 32 := 8#32
  let v21 : BitVec 32 := Scalar.muli v20 c8_i32_10
  let v22 : BitVec 32 := Scalar.addi c0_i32_11 v21
  let c0_i32_12 : BitVec 32 := 0#32
  let v23 : BitVec 32 := Scalar.shrsi v2 c0_i32_12
  let c1_i32_13 : BitVec 32 := 1#32
  let v24 : BitVec 32 := Scalar.andi v23 c1_i32_13
  let c4_i32_14 : BitVec 32 := 4#32
  let v25 : BitVec 32 := Scalar.muli v24 c4_i32_14
  let v26 : BitVec 32 := Scalar.addi v22 v25
  let c3_i32_15 : BitVec 32 := 3#32
  let v27 : BitVec 32 := Scalar.shrsi v2 c3_i32_15
  let c1_i32_16 : BitVec 32 := 1#32
  let v28 : BitVec 32 := Scalar.andi v27 c1_i32_16
  let c2_i32_17 : BitVec 32 := 2#32
  let v29 : BitVec 32 := Scalar.muli v28 c2_i32_17
  let v30 : BitVec 32 := Scalar.addi v26 v29
  let c1_i32_18 : BitVec 32 := 1#32
  let v31 : BitVec 32 := Scalar.shrsi v2 c1_i32_18
  let c1_i32_19 : BitVec 32 := 1#32
  let v32 : BitVec 32 := Scalar.andi v31 c1_i32_19
  let c1_i32_20 : BitVec 32 := 1#32
  let v33 : BitVec 32 := Scalar.muli v32 c1_i32_20
  let v34 : BitVec 32 := Scalar.addi v30 v33
  let c1_i32_584 : BitVec 32 := 1#32
  let v635 : BitVec 32 := Scalar.shrsi v34 c1_i32_584
  let c1_i32_585 : BitVec 32 := 1#32
  let v636 : BitVec 32 := Scalar.shli v635 c1_i32_585
  let c32_i32_586 : BitVec 32 := 32#32
  let v637 : BitVec 32 := Scalar.muli v636 c32_i32_586
  let c0_i32_596 : BitVec 32 := 0#32
  ![1, v637.toNat, 0]
def k0_dev16 (d0 : Dev nD) : Nat :=
  let c0_i32_595 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_587 : BitVec 32 := 8#32
  let v638 : BitVec 32 := Scalar.xori v2 c8_i32_587
  let c1_i32_594 : BitVec 32 := 1#32
  let v639 : BitVec 32 := Scalar.muli v638 c1_i32_594
  let v640 : BitVec 32 := Scalar.addi c0_i32_595 v639
  v640.toNat
def k0_off21 (d0 : Dev nD) : Fin 3 → Nat :=
  let c0_i32_641 : BitVec 32 := 0#32
  let c0_i32_1 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 32 := Scalar.shrsi v2 c0_i32
  let c1_i32_0 : BitVec 32 := 1#32
  let v4 : BitVec 32 := Scalar.andi v3 c1_i32_0
  let c8_i32 : BitVec 32 := 8#32
  let v5 : BitVec 32 := Scalar.muli v4 c8_i32
  let v6 : BitVec 32 := Scalar.addi c0_i32_1 v5
  let c2_i32 : BitVec 32 := 2#32
  let v7 : BitVec 32 := Scalar.shrsi v2 c2_i32
  let c1_i32_2 : BitVec 32 := 1#32
  let v8 : BitVec 32 := Scalar.andi v7 c1_i32_2
  let c4_i32 : BitVec 32 := 4#32
  let v9 : BitVec 32 := Scalar.muli v8 c4_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c2_i32_5 : BitVec 32 := 2#32
  let v13 : BitVec 32 := Scalar.muli v12 c2_i32_5
  let v14 : BitVec 32 := Scalar.addi v10 v13
  let c3_i32 : BitVec 32 := 3#32
  let v15 : BitVec 32 := Scalar.shrsi v2 c3_i32
  let c1_i32_6 : BitVec 32 := 1#32
  let v16 : BitVec 32 := Scalar.andi v15 c1_i32_6
  let c1_i32_7 : BitVec 32 := 1#32
  let v17 : BitVec 32 := Scalar.muli v16 c1_i32_7
  let v18 : BitVec 32 := Scalar.addi v14 v17
  let c2_i32_636 : BitVec 32 := 2#32
  let v677 : BitVec 32 := Scalar.shrsi v18 c2_i32_636
  let c2_i32_637 : BitVec 32 := 2#32
  let v678 : BitVec 32 := Scalar.shli v677 c2_i32_637
  let c32_i32_638 : BitVec 32 := 32#32
  let v679 : BitVec 32 := Scalar.muli v678 c32_i32_638
  let c0_i32_648 : BitVec 32 := 0#32
  ![0, v679.toNat, 0]
def k0_dev17 (d0 : Dev nD) : Nat :=
  let c0_i32_647 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_639 : BitVec 32 := 4#32
  let v680 : BitVec 32 := Scalar.xori v2 c4_i32_639
  let c1_i32_646 : BitVec 32 := 1#32
  let v681 : BitVec 32 := Scalar.muli v680 c1_i32_646
  let v682 : BitVec 32 := Scalar.addi c0_i32_647 v681
  v682.toNat
def k0_off22 (d0 : Dev nD) : Fin 3 → Nat :=
  let c1_i32_655 : BitVec 32 := 1#32
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_8 : BitVec 32 := 2#32
  let v19 : BitVec 32 := Scalar.shrsi v2 c2_i32_8
  let c1_i32_9 : BitVec 32 := 1#32
  let v20 : BitVec 32 := Scalar.andi v19 c1_i32_9
  let c8_i32_10 : BitVec 32 := 8#32
  let v21 : BitVec 32 := Scalar.muli v20 c8_i32_10
  let v22 : BitVec 32 := Scalar.addi c0_i32_11 v21
  let c0_i32_12 : BitVec 32 := 0#32
  let v23 : BitVec 32 := Scalar.shrsi v2 c0_i32_12
  let c1_i32_13 : BitVec 32 := 1#32
  let v24 : BitVec 32 := Scalar.andi v23 c1_i32_13
  let c4_i32_14 : BitVec 32 := 4#32
  let v25 : BitVec 32 := Scalar.muli v24 c4_i32_14
  let v26 : BitVec 32 := Scalar.addi v22 v25
  let c3_i32_15 : BitVec 32 := 3#32
  let v27 : BitVec 32 := Scalar.shrsi v2 c3_i32_15
  let c1_i32_16 : BitVec 32 := 1#32
  let v28 : BitVec 32 := Scalar.andi v27 c1_i32_16
  let c2_i32_17 : BitVec 32 := 2#32
  let v29 : BitVec 32 := Scalar.muli v28 c2_i32_17
  let v30 : BitVec 32 := Scalar.addi v26 v29
  let c1_i32_18 : BitVec 32 := 1#32
  let v31 : BitVec 32 := Scalar.shrsi v2 c1_i32_18
  let c1_i32_19 : BitVec 32 := 1#32
  let v32 : BitVec 32 := Scalar.andi v31 c1_i32_19
  let c1_i32_20 : BitVec 32 := 1#32
  let v33 : BitVec 32 := Scalar.muli v32 c1_i32_20
  let v34 : BitVec 32 := Scalar.addi v30 v33
  let c2_i32_650 : BitVec 32 := 2#32
  let v691 : BitVec 32 := Scalar.shrsi v34 c2_i32_650
  let c2_i32_651 : BitVec 32 := 2#32
  let v692 : BitVec 32 := Scalar.shli v691 c2_i32_651
  let c32_i32_652 : BitVec 32 := 32#32
  let v693 : BitVec 32 := Scalar.muli v692 c32_i32_652
  let c0_i32_662 : BitVec 32 := 0#32
  ![1, v693.toNat, 0]
def k0_dev18 (d0 : Dev nD) : Nat :=
  let c0_i32_661 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_653 : BitVec 32 := 1#32
  let v694 : BitVec 32 := Scalar.xori v2 c1_i32_653
  let c1_i32_660 : BitVec 32 := 1#32
  let v695 : BitVec 32 := Scalar.muli v694 c1_i32_660
  let v696 : BitVec 32 := Scalar.addi c0_i32_661 v695
  v696.toNat
def k0_off23 (d0 : Dev nD) : Fin 3 → Nat :=
  let c0_i32_707 : BitVec 32 := 0#32
  let c0_i32_1 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 32 := Scalar.shrsi v2 c0_i32
  let c1_i32_0 : BitVec 32 := 1#32
  let v4 : BitVec 32 := Scalar.andi v3 c1_i32_0
  let c8_i32 : BitVec 32 := 8#32
  let v5 : BitVec 32 := Scalar.muli v4 c8_i32
  let v6 : BitVec 32 := Scalar.addi c0_i32_1 v5
  let c2_i32 : BitVec 32 := 2#32
  let v7 : BitVec 32 := Scalar.shrsi v2 c2_i32
  let c1_i32_2 : BitVec 32 := 1#32
  let v8 : BitVec 32 := Scalar.andi v7 c1_i32_2
  let c4_i32 : BitVec 32 := 4#32
  let v9 : BitVec 32 := Scalar.muli v8 c4_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c2_i32_5 : BitVec 32 := 2#32
  let v13 : BitVec 32 := Scalar.muli v12 c2_i32_5
  let v14 : BitVec 32 := Scalar.addi v10 v13
  let c3_i32 : BitVec 32 := 3#32
  let v15 : BitVec 32 := Scalar.shrsi v2 c3_i32
  let c1_i32_6 : BitVec 32 := 1#32
  let v16 : BitVec 32 := Scalar.andi v15 c1_i32_6
  let c1_i32_7 : BitVec 32 := 1#32
  let v17 : BitVec 32 := Scalar.muli v16 c1_i32_7
  let v18 : BitVec 32 := Scalar.addi v14 v17
  let c3_i32_702 : BitVec 32 := 3#32
  let v733 : BitVec 32 := Scalar.shrsi v18 c3_i32_702
  let c3_i32_703 : BitVec 32 := 3#32
  let v734 : BitVec 32 := Scalar.shli v733 c3_i32_703
  let c32_i32_704 : BitVec 32 := 32#32
  let v735 : BitVec 32 := Scalar.muli v734 c32_i32_704
  let c0_i32_714 : BitVec 32 := 0#32
  ![0, v735.toNat, 0]
def k0_dev19 (d0 : Dev nD) : Nat :=
  let c0_i32_713 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_705 : BitVec 32 := 1#32
  let v736 : BitVec 32 := Scalar.xori v2 c1_i32_705
  let c1_i32_712 : BitVec 32 := 1#32
  let v737 : BitVec 32 := Scalar.muli v736 c1_i32_712
  let v738 : BitVec 32 := Scalar.addi c0_i32_713 v737
  v738.toNat
def k0_off24 (d0 : Dev nD) : Fin 3 → Nat :=
  let c1_i32_721 : BitVec 32 := 1#32
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_8 : BitVec 32 := 2#32
  let v19 : BitVec 32 := Scalar.shrsi v2 c2_i32_8
  let c1_i32_9 : BitVec 32 := 1#32
  let v20 : BitVec 32 := Scalar.andi v19 c1_i32_9
  let c8_i32_10 : BitVec 32 := 8#32
  let v21 : BitVec 32 := Scalar.muli v20 c8_i32_10
  let v22 : BitVec 32 := Scalar.addi c0_i32_11 v21
  let c0_i32_12 : BitVec 32 := 0#32
  let v23 : BitVec 32 := Scalar.shrsi v2 c0_i32_12
  let c1_i32_13 : BitVec 32 := 1#32
  let v24 : BitVec 32 := Scalar.andi v23 c1_i32_13
  let c4_i32_14 : BitVec 32 := 4#32
  let v25 : BitVec 32 := Scalar.muli v24 c4_i32_14
  let v26 : BitVec 32 := Scalar.addi v22 v25
  let c3_i32_15 : BitVec 32 := 3#32
  let v27 : BitVec 32 := Scalar.shrsi v2 c3_i32_15
  let c1_i32_16 : BitVec 32 := 1#32
  let v28 : BitVec 32 := Scalar.andi v27 c1_i32_16
  let c2_i32_17 : BitVec 32 := 2#32
  let v29 : BitVec 32 := Scalar.muli v28 c2_i32_17
  let v30 : BitVec 32 := Scalar.addi v26 v29
  let c1_i32_18 : BitVec 32 := 1#32
  let v31 : BitVec 32 := Scalar.shrsi v2 c1_i32_18
  let c1_i32_19 : BitVec 32 := 1#32
  let v32 : BitVec 32 := Scalar.andi v31 c1_i32_19
  let c1_i32_20 : BitVec 32 := 1#32
  let v33 : BitVec 32 := Scalar.muli v32 c1_i32_20
  let v34 : BitVec 32 := Scalar.addi v30 v33
  let c3_i32_716 : BitVec 32 := 3#32
  let v747 : BitVec 32 := Scalar.shrsi v34 c3_i32_716
  let c3_i32_717 : BitVec 32 := 3#32
  let v748 : BitVec 32 := Scalar.shli v747 c3_i32_717
  let c32_i32_718 : BitVec 32 := 32#32
  let v749 : BitVec 32 := Scalar.muli v748 c32_i32_718
  let c0_i32_728 : BitVec 32 := 0#32
  ![1, v749.toNat, 0]
def k0_dev20 (d0 : Dev nD) : Nat :=
  let c0_i32_727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_719 : BitVec 32 := 4#32
  let v750 : BitVec 32 := Scalar.xori v2 c4_i32_719
  let c1_i32_726 : BitVec 32 := 1#32
  let v751 : BitVec 32 := Scalar.muli v750 c1_i32_726
  let v752 : BitVec 32 := Scalar.addi c0_i32_727 v751
  v752.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x256 : Shape := ⟨2, ![512, 256]⟩
abbrev S256x32 : Shape := ⟨2, ![256, 32]⟩
abbrev S512x1 : Shape := ⟨2, ![512, 1]⟩
abbrev S32x256x512 : Shape := ⟨3, ![32, 256, 512]⟩
abbrev S512 : Shape := ⟨1, ![512]⟩
abbrev S_ : Shape := ⟨0, ![]⟩
abbrev S512x256x512 : Shape := ⟨3, ![512, 256, 512]⟩
abbrev S512x512 : Shape := ⟨2, ![512, 512]⟩

abbrev nBuf : Space → Nat
  | .hbm => 36
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x32, .f32⟩
  | .hbm, ⟨2, _⟩ => ⟨S512x1, .i32⟩
  | .hbm, ⟨3, _⟩ => ⟨S32x256x512, .f32⟩
  | .hbm, ⟨4, _⟩ => ⟨S512, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S512, .i32⟩
  | .hbm, ⟨9, _⟩ => ⟨S512, .i32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S_, .i32⟩
  | .hbm, ⟨17, _⟩ => ⟨S512, .i32⟩
  | .hbm, ⟨18, _⟩ => ⟨S512, .i32⟩
  | .hbm, ⟨19, _⟩ => ⟨S512, .i32⟩
  | .hbm, ⟨20, _⟩ => ⟨S512x1, .i32⟩
  | .hbm, ⟨21, _⟩ => ⟨S512x256x512, .f32⟩
  | .hbm, ⟨22, _⟩ => ⟨S512x512, .f32⟩
  | .hbm, ⟨23, _⟩ => ⟨S_, .i32⟩
  | .hbm, ⟨24, _⟩ => ⟨S512, .i32⟩
  | .hbm, ⟨25, _⟩ => ⟨S512, .i1⟩
  | .hbm, ⟨26, _⟩ => ⟨S_, .i32⟩
  | .hbm, ⟨27, _⟩ => ⟨S512, .i32⟩
  | .hbm, ⟨28, _⟩ => ⟨S512, .i1⟩
  | .hbm, ⟨29, _⟩ => ⟨S512, .i1⟩
  | .hbm, ⟨30, _⟩ => ⟨S512x1, .i1⟩
  | .hbm, ⟨31, _⟩ => ⟨S_, .f32⟩
  | .hbm, ⟨32, _⟩ => ⟨S_, .f32⟩
  | .hbm, ⟨33, _⟩ => ⟨S512x512, .i1⟩
  | .hbm, ⟨34, _⟩ => ⟨S512x512, .f32⟩
  | .hbm, ⟨35, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev main_c_1 : Ref sig .tc := ⟨.hbm, 13, rfl⟩
abbrev main_v2 : Ref sig .tc := ⟨.hbm, 14, rfl⟩
abbrev main_v3 : Ref sig .tc := ⟨.hbm, 15, rfl⟩
abbrev main_c_2 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_3 : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v16 : Ref sig .tc := ⟨.hbm, 35, rfl⟩

abbrev nD : Nat := 1
abbrev τ : Topo := Topo.v7x

variable {F : FTy → Type} [FloatOps F]
-- ==== Proof.Mesh.lean ====
/- The mesh of sixteen devices as a four-cube, the two flows' orders of its axes, and the rows each step of a flow
   moves: the kernel's device and offset chains in closed form. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Cube

open Cert.KernelIdeal Cert.KernelIdeal.Gen
open Idealize.ShloMosaic
open Idealize.ShloMosaic.TcCoe
open Idealize.ShloMosaic.RefSig (tileCredit tileCredit_pos)

/-! ## Devices -/

set_option backward.proofsInPublic true in
/-- The neighbour of `c` across axis `b` of the cube. -/
def xr (b : ℕ) (c : Dev nD) : Dev nD := ⟨(c.val ^^^ (2 ^ b)) % 16, Nat.mod_lt _ (by decide)⟩

theorem xr_xr : ∀ b < 4, ∀ c : Dev nD, xr b (xr b c) = c := by decide +kernel

/-- The axis flow `f` crosses at step `t` of its reduction. -/
def bt (f t : ℕ) : ℕ := if f = 0 then (if t = 0 then 0 else if t = 1 then 2 else if t = 2 then 1 else 3)
  else (if t = 0 then 2 else if t = 1 then 0 else if t = 2 then 3 else 1)
/-- The step at which flow `f` crosses axis `b`. -/
def tb (f b : ℕ) : ℕ := if f = 0 then (if b = 0 then 0 else if b = 1 then 2 else if b = 2 then 1 else 3)
  else (if b = 0 then 1 else if b = 1 then 3 else if b = 2 then 0 else 2)

theorem bt_lt (f t : ℕ) : bt f t < 4 := by unfold bt; (repeat' split) <;> omega

/-- The partner of `c` in flow `f` at step `t`. -/
def pr (t f : ℕ) (c : Dev nD) : Dev nD := xr (bt f t) c
theorem pr_pr (t f : ℕ) (c : Dev nD) : pr t f (pr t f c) = c := xr_xr _ (bt_lt f t) c

/-- The block of rows device `d` ends with in flow `f`. -/
def virt (f d : ℕ) : ℕ := d / 2 ^ bt f 0 % 2 * 8 + d / 2 ^ bt f 1 % 2 * 4 + d / 2 ^ bt f 2 % 2 * 2 + d / 2 ^ bt f 3 % 2
/-- The device whose block of rows in flow `f` is `b`. -/
def ivirt (f b : ℕ) : ℕ := b / 8 % 2 * 2 ^ bt f 0 + b / 4 % 2 * 2 ^ bt f 1 + b / 2 % 2 * 2 ^ bt f 2 + b % 2 * 2 ^ bt f 3

theorem virt_ivirt : ∀ f < 2, ∀ b < 16, virt f (ivirt f b) = b := by decide +kernel
theorem ivirt_virt : ∀ f < 2, ∀ b < 16, ivirt f (virt f b) = b := by decide +kernel
theorem virt_lt : ∀ f < 2, ∀ b < 16, virt f b < 16 := by decide +kernel
theorem ivirt_lt : ∀ f < 2, ∀ b < 16, ivirt f b < 16 := by decide +kernel

/-! ## Rows -/

/-- The rows moved at step `t`, and where they land in the buffer. -/
def rows (t : ℕ) : ℕ := if t = 0 then 256 else if t = 1 then 128 else if t = 2 then 64 else 32
def lnd (t : ℕ) : ℕ := if t = 0 then 0 else if t = 1 then 256 else if t = 2 then 384 else 448
/-- The first row of what device `c` keeps at step `t`. -/
def base (t f : ℕ) (c : Dev nD) : ℕ := virt f c.val / (rows t / 32) * rows t

theorem rows_pos (t : ℕ) : 0 < rows t := by unfold rows; (repeat' split) <;> omega
theorem base_first : ∀ f < 2, ∀ c : Dev nD, (base 0 f c = 0 ∧ base 0 f (pr 0 f c) = 256) ∨ (base 0 f c = 256 ∧ base 0 f (pr 0 f c) = 0) := by
  decide +kernel
theorem base_step : ∀ t < 3, ∀ f < 2, ∀ c : Dev nD,
    (base (t + 1) f c = base t f c ∧ base (t + 1) f (pr (t + 1) f c) = base t f c + rows (t + 1))
    ∨ (base (t + 1) f c = base t f c + rows (t + 1) ∧ base (t + 1) f (pr (t + 1) f c) = base t f c) := by decide +kernel
theorem rows_step : ∀ t < 3, rows t = rows (t + 1) + rows (t + 1) := by decide
theorem base_last (f : ℕ) (c : Dev nD) : base 3 f c = 32 * virt f c.val := by
  show virt f c.val / (32 / 32) * 32 = _
  omega

/-- The credit of a transfer of `rows t` rows. -/
@[irreducible] def NR (t : ℕ) : ℕ := tileCredit ⟨2, ![rows t, 256]⟩ .bf16
theorem NR_eq (t : ℕ) : NR t = tileCredit ⟨2, ![rows t, 256]⟩ .bf16 := by unfold NR; rfl
theorem NR_pos (t : ℕ) : 0 < NR t := by
  rw [NR_eq]
  exact tileCredit_pos _ _ (by
    show 0 < rows t * (256 * 1)
    have := rows_pos t; omega)

/-! ## The kernel's chains -/

theorem dev1_eq (c : Dev nD) : (⟨k0_dev1 c, k0_dev1_lt c⟩ : Dev nD) = xr 0 c := by revert c; decide +kernel
theorem dev2_eq (c : Dev nD) : (⟨k0_dev2 c, k0_dev2_lt c⟩ : Dev nD) = xr 1 c := by revert c; decide +kernel
theorem dev3_eq (c : Dev nD) : (⟨k0_dev3 c, k0_dev3_lt c⟩ : Dev nD) = xr 2 c := by revert c; decide +kernel
theorem dev4_eq (c : Dev nD) : (⟨k0_dev4 c, k0_dev4_lt c⟩ : Dev nD) = xr 3 c := by revert c; decide +kernel
theorem dev5_eq (c : Dev nD) : (⟨k0_dev5 c, k0_dev5_lt c⟩ : Dev nD) = pr 0 0 c := by revert c; decide +kernel
theorem dev6_eq (c : Dev nD) : (⟨k0_dev6 c, k0_dev6_lt c⟩ : Dev nD) = pr 0 1 c := by revert c; decide +kernel
theorem dev7_eq (c : Dev nD) : (⟨k0_dev7 c, k0_dev7_lt c⟩ : Dev nD) = pr 1 0 c := by revert c; decide +kernel
theorem dev8_eq (c : Dev nD) : (⟨k0_dev8 c, k0_dev8_lt c⟩ : Dev nD) = pr 1 1 c := by revert c; decide +kernel
theorem dev9_eq (c : Dev nD) : (⟨k0_dev9 c, k0_dev9_lt c⟩ : Dev nD) = pr 2 0 c := by revert c; decide +kernel
theorem dev10_eq (c : Dev nD) : (⟨k0_dev10 c, k0_dev10_lt c⟩ : Dev nD) = pr 2 1 c := by revert c; decide +kernel
theorem dev11_eq (c : Dev nD) : (⟨k0_dev11 c, k0_dev11_lt c⟩ : Dev nD) = pr 3 0 c := by revert c; decide +kernel
theorem dev12_eq (c : Dev nD) : (⟨k0_dev12 c, k0_dev12_lt c⟩ : Dev nD) = pr 3 1 c := by revert c; decide +kernel
theorem dev13_eq (c : Dev nD) : (⟨k0_dev13 c, k0_dev13_lt c⟩ : Dev nD) = pr 3 0 c := by revert c; decide +kernel
theorem dev14_eq (c : Dev nD) : (⟨k0_dev14 c, k0_dev14_lt c⟩ : Dev nD) = pr 3 1 c := by revert c; decide +kernel
theorem dev15_eq (c : Dev nD) : (⟨k0_dev15 c, k0_dev15_lt c⟩ : Dev nD) = pr 2 0 c := by revert c; decide +kernel
theorem dev16_eq (c : Dev nD) : (⟨k0_dev16 c, k0_dev16_lt c⟩ : Dev nD) = pr 2 1 c := by revert c; decide +kernel
theorem dev17_eq (c : Dev nD) : (⟨k0_dev17 c, k0_dev17_lt c⟩ : Dev nD) = pr 1 0 c := by revert c; decide +kernel
theorem dev18_eq (c : Dev nD) : (⟨k0_dev18 c, k0_dev18_lt c⟩ : Dev nD) = pr 1 1 c := by revert c; decide +kernel
theorem dev19_eq (c : Dev nD) : (⟨k0_dev19 c, k0_dev19_lt c⟩ : Dev nD) = pr 0 0 c := by revert c; decide +kernel
theorem dev20_eq (c : Dev nD) : (⟨k0_dev20 c, k0_dev20_lt c⟩ : Dev nD) = pr 0 1 c := by revert c; decide +kernel
theorem off1_eq (c : Dev nD) : k0_off1 c = ![0, base 0 0 (pr 0 0 c), 0] := by revert c; decide +kernel
theorem off2_eq (c : Dev nD) : k0_off2 c = ![1, base 0 1 (pr 0 1 c), 0] := by revert c; decide +kernel
theorem off3_eq (c : Dev nD) : k0_off3 c = ![0, base 0 0 c, 0] := by revert c; decide +kernel
theorem off4_eq (c : Dev nD) : k0_off4 c = ![1, base 0 1 c, 0] := by revert c; decide +kernel
theorem off5_eq (c : Dev nD) : k0_off5 c = ![0, base 1 0 (pr 1 0 c), 0] := by revert c; decide +kernel
theorem off6_eq (c : Dev nD) : k0_off6 c = ![1, base 1 1 (pr 1 1 c), 0] := by revert c; decide +kernel
theorem off7_eq (c : Dev nD) : k0_off7 c = ![0, base 1 0 c, 0] := by revert c; decide +kernel
theorem off8_eq (c : Dev nD) : k0_off8 c = ![1, base 1 1 c, 0] := by revert c; decide +kernel
theorem off9_eq (c : Dev nD) : k0_off9 c = ![0, base 2 0 (pr 2 0 c), 0] := by revert c; decide +kernel
theorem off10_eq (c : Dev nD) : k0_off10 c = ![1, base 2 1 (pr 2 1 c), 0] := by revert c; decide +kernel
theorem off11_eq (c : Dev nD) : k0_off11 c = ![0, base 2 0 c, 0] := by revert c; decide +kernel
theorem off12_eq (c : Dev nD) : k0_off12 c = ![1, base 2 1 c, 0] := by revert c; decide +kernel
theorem off13_eq (c : Dev nD) : k0_off13 c = ![0, base 3 0 (pr 3 0 c), 0] := by revert c; decide +kernel
theorem off14_eq (c : Dev nD) : k0_off14 c = ![1, base 3 1 (pr 3 1 c), 0] := by revert c; decide +kernel
theorem off15_eq (c : Dev nD) : k0_off15 c = ![0, base 3 0 c, 0] := by revert c; decide +kernel
theorem off16_eq (c : Dev nD) : k0_off16 c = ![1, base 3 1 c, 0] := by revert c; decide +kernel
theorem off17_eq (c : Dev nD) : k0_off17 c = ![0, base 3 0 c, 0] := by revert c; decide +kernel
theorem off18_eq (c : Dev nD) : k0_off18 c = ![1, base 3 1 c, 0] := by revert c; decide +kernel
theorem off19_eq (c : Dev nD) : k0_off19 c = ![0, base 2 0 c, 0] := by revert c; decide +kernel
theorem off20_eq (c : Dev nD) : k0_off20 c = ![1, base 2 1 c, 0] := by revert c; decide +kernel
theorem off21_eq (c : Dev nD) : k0_off21 c = ![0, base 1 0 c, 0] := by revert c; decide +kernel
theorem off22_eq (c : Dev nD) : k0_off22 c = ![1, base 1 1 c, 0] := by revert c; decide +kernel
theorem off23_eq (c : Dev nD) : k0_off23 c = ![0, base 0 0 c, 0] := by revert c; decide +kernel
theorem off24_eq (c : Dev nD) : k0_off24 c = ![1, base 0 1 c, 0] := by revert c; decide +kernel

/-! ## Semaphores and their cells -/

/-- The runtime's barrier semaphore. -/
abbrev barS : Sem sig := (SemArray.scalar (sig.barrier 0 rfl) : Sems sig S_).sem

set_option backward.proofsInPublic true in
/-- The kernel's transfer semaphores: kind `κ` (0 the reduction's sends, 1 its receives, 2 the gather's sends, 3 its
    receives), step `j`, flow `f`. -/
def sq (κ j f : ℕ) : DmaSem sig := ⟨(4 + 8 * κ + 2 * j + f) % 36, Nat.mod_lt _ (by decide)⟩

abbrev barCell (c : Dev nD) : GSem nD τ sig := ((c : Thread nD τ), .reg barS)
abbrev dcell (κ j f : ℕ) (c : Dev nD) : GSem nD τ sig := ((c : Thread nD τ), .dma (sq κ j f))

/-! ## Regions -/

/-- The rows device `c` keeps at step `t` of flow `f`. -/
def aK (t f : ℕ) (c : Dev nD) : Finset S2x512x256.Idx :=
  Finset.univ.filter fun i => (i 0).val = f ∧ base t f c ≤ (i 1).val ∧ (i 1).val < base t f c + rows t
/-- The rows device `c` still reduces before step `t`. -/
def aP : ℕ → ℕ → Dev nD → Finset S2x512x256.Idx
  | 0, f, _ => Finset.univ.filter fun i => (i 0).val = f
  | t + 1, f, c => aK t f c
/-- The rows of the landing buffer that step `t` of flow `f` fills. -/
def bR (t f : ℕ) : Finset S2x480x256.Idx :=
  Finset.univ.filter fun i => (i 0).val = f ∧ lnd t ≤ (i 1).val ∧ (i 1).val < lnd t + rows t

theorem mem_aK {t f : ℕ} {c : Dev nD} {i : S2x512x256.Idx} :
    i ∈ aK t f c ↔ (i 0).val = f ∧ base t f c ≤ (i 1).val ∧ (i 1).val < base t f c + rows t := by
  unfold aK; rw [Finset.mem_filter]; exact and_iff_right (Finset.mem_univ _)
theorem mem_bR {t f : ℕ} {i : S2x480x256.Idx} :
    i ∈ bR t f ↔ (i 0).val = f ∧ lnd t ≤ (i 1).val ∧ (i 1).val < lnd t + rows t := by
  unfold bR; rw [Finset.mem_filter]; exact and_iff_right (Finset.mem_univ _)

theorem aP_eq (t f : ℕ) (ht : t < 4) (hf : f < 2) (c : Dev nD) : aP t f c = aK t f c ∪ aK t f (pr t f c) := by
  ext i
  rw [Finset.mem_union, mem_aK, mem_aK]
  cases t with
  | zero =>
    unfold aP; rw [Finset.mem_filter]
    have h1 := base_first f hf c
    have h2 : (i 1).val < 512 := (i 1).isLt
    have h3 : rows 0 = 256 := rfl
    have h4 := Finset.mem_univ i
    constructor
    · rintro ⟨-, h⟩; omega
    · intro h; exact ⟨h4, by omega⟩
  | succ t =>
    show i ∈ aK t f c ↔ _
    rw [mem_aK]
    have h1 := base_step t (by omega) f hf c
    have h3 := rows_step t (by omega)
    omega
theorem aK_disj (t f : ℕ) (ht : t < 4) (hf : f < 2) (c : Dev nD) : Disjoint (aK t f c) (aK t f (pr t f c)) := by
  rw [Finset.disjoint_left]
  intro i
  rw [mem_aK, mem_aK]
  cases t with
  | zero =>
    have h1 := base_first f hf c
    have h3 : rows 0 = 256 := rfl
    omega
  | succ t =>
    have h1 := base_step t (by omega) f hf c
    have h3 := rows_step t (by omega)
    omega
theorem aP_zero_union : (Finset.univ : Finset S2x512x256.Idx) = (aP 0 0 0) ∪ (aP 0 1 0) := by
  ext i
  have h : (i 0).val < 2 := (i 0).isLt
  unfold aP
  rw [Finset.mem_union, Finset.mem_filter, Finset.mem_filter]
  have := Finset.mem_univ i
  constructor
  · intro _; rcases Nat.lt_or_ge (i 0).val 1 with h1 | h1
    · exact Or.inl ⟨this, by omega⟩
    · exact Or.inr ⟨this, by omega⟩
  · intro _; exact this
theorem aP_zero_disj : Disjoint (aP 0 0 0) (aP 0 1 0) := by
  rw [Finset.disjoint_left]
  intro i
  unfold aP
  rw [Finset.mem_filter, Finset.mem_filter]
  omega

end Cert.KernelIdeal.Cube

end
-- ==== Proof.Contents.lean ====
/- What the kernel's buffers hold, step by step: a device's partial product, what is left of each flow's reduction after
   `t` steps, what lands in the buffer, the finished sum and the output, over any float values. -/
module

public import proofs.«01_k».proof.Proof.Mesh
public import Idealize.ShloMosaic.Lib.Pipeline.ValueKit.Geometry

@[expose] public section

noncomputable section

namespace Cert.KernelIdeal.Cube

open Cert.KernelIdeal Cert.KernelIdeal.Gen
open Idealize.ShloMosaic
open Idealize.ShloMosaic.TcCoe

variable {F : FTy → Type} [FloatOps F]

/-! ## Indices -/

def aI (a b d : ℕ) : S2x512x256.Idx := fun
  | ⟨0, _⟩ => ⟨a % 2, Nat.mod_lt _ (by decide)⟩
  | ⟨1, _⟩ => ⟨b % 512, Nat.mod_lt _ (by decide)⟩
  | ⟨2, _⟩ => ⟨d % 256, Nat.mod_lt _ (by decide)⟩
def pI (a b : ℕ) : S512x512.Idx := fun
  | ⟨0, _⟩ => ⟨a % 512, Nat.mod_lt _ (by decide)⟩
  | ⟨1, _⟩ => ⟨b % 512, Nat.mod_lt _ (by decide)⟩

theorem aI_ext {a b d : ℕ} {i : S2x512x256.Idx} (h0 : (i 0).val = a) (h1 : (i 1).val = b) (h2 : (i 2).val = d) : aI a b d = i := by
  have l0 : (i 0).val < 2 := (i 0).isLt
  have l1 : (i 1).val < 512 := (i 1).isLt
  have l2 : (i 2).val < 256 := (i 2).isLt
  funext k
  match k with
  | ⟨0, _⟩ => exact Fin.ext (show a % 2 = (i 0).val by omega)
  | ⟨1, _⟩ => exact Fin.ext (show b % 512 = (i 1).val by omega)
  | ⟨2, _⟩ => exact Fin.ext (show d % 256 = (i 2).val by omega)
theorem pI_ext {a b : ℕ} {i : S512x512.Idx} (h0 : (i 0).val = a) (h1 : (i 1).val = b) : pI a b = i := by
  have l0 : (i 0).val < 512 := (i 0).isLt
  have l1 : (i 1).val < 512 := (i 1).isLt
  funext k
  match k with
  | ⟨0, _⟩ => exact Fin.ext (show a % 512 = (i 0).val by omega)
  | ⟨1, _⟩ => exact Fin.ext (show b % 512 = (i 1).val by omega)
theorem aI_0 {a b d : ℕ} (h : a < 2) : ((aI a b d) 0).val = a := Nat.mod_eq_of_lt h
theorem aI_1 {a b d : ℕ} (h : b < 512) : ((aI a b d) 1).val = b := Nat.mod_eq_of_lt h
theorem aI_2 {a b d : ℕ} (h : d < 256) : ((aI a b d) 2).val = d := Nat.mod_eq_of_lt h

/-! ## The partial product -/

variable (m : (ℓ : Loc nD τ sig) → Buf (Elt F) ℓ)

/-- Device `c`'s tokens, routes and two experts, as staged. -/
def xs (c : Dev nD) : (cc0_stg0_0 : Ref sig .tc).ty.Contents (Elt F) :=
  (win0_0.blk (0 : Fin 1)).view.read (Elt F) (m ((c : Thread nD τ).loc main_arg0))
def rs (c : Dev nD) : (cc0_stg1_0 : Ref sig .tc).ty.Contents (Elt F) :=
  (win0_1.blk (0 : Fin 1)).view.read (Elt F) (m ((c : Thread nD τ).loc main_arg2))
def ws (c : Dev nD) : (cc0_stg2_0 : Ref sig .tc).ty.Contents (Elt F) :=
  (win0_2.blk (0 : Fin 1)).view.read (Elt F) (m ((c : Thread nD τ).loc main_arg3))

abbrev wR0 : Rect S2x256x512 := Rect.unit (s := S2x256x512) ![0, 0, 0] S1x256x512.size inb_S2x256x512_S1x256x512_0_0_0
abbrev wR1 : Rect S2x256x512 := Rect.unit (s := S2x256x512) ![1, 0, 0] S1x256x512.size inb_S2x256x512_S1x256x512_1_0_0
def w0 (c : Dev nD) : Vec F S1x256x512 .f32 :=
  (Memref.whole cc0_stg2_0 : Memref sig .tc .vmem S2x256x512 .f32).view.readAt (Elt F) wR0.toLoadRect (ws m c)
def w1 (c : Dev nD) : Vec F S1x256x512 .f32 :=
  (Memref.whole cc0_stg2_0 : Memref sig .tc .vmem S2x256x512 .f32).view.readAt (Elt F) wR1.toLoadRect (ws m c)

/-- The word the kernel computes for its position. -/
def vid (c : Dev nD) : BitVec 32 := Scalar.remsi (Scalar.divsi (Dev.word c) 1#32) 16#32

/-- Device `c`'s product over its two experts, of the tokens routed to them. -/
def part (c : Dev nD) : FVec F S512x512 .bf16 :=
  k0_pay7 (k0_pay3 (rs m c)) (k0_pay4 (xs m c)) (Scalar.muli (vid c) 2#32) (k0_pay5 (F := F)) (k0_pay6 (vid c) (rs m c) (xs m c)) (w0 m c) (w1 m c)

/-! ## The reduction -/

/-- One accumulation: widened, added, narrowed. -/
def addE (a b : F .bf16) : F .bf16 :=
  FloatOps.truncf .bf16 (by decide) (FloatOps.addf (FloatOps.extf .f32 (by decide) a) (FloatOps.extf .f32 (by decide) b))

/-- What the accumulator holds on device `c` after `t` steps, where it still holds it. -/
def St : ℕ → Dev nD → S2x512x256.Idx → F .bf16
  | 0, c, i => part m c (pI (32 * ivirt (i 0).val ((i 1).val / 32) + (i 1).val % 32) (256 * (i 0).val + (i 2).val))
  | t + 1, c, i => addE (St t c i) (St t (pr t (i 0).val c) i)

/-- What step `t` lands in device `c`'s buffer. -/
def bfC (t : ℕ) (c : Dev nD) : S2x480x256.Idx → F .bf16 := fun j =>
  St m t (pr t (j 0).val c) (aI (j 0).val (base t (j 0).val c + ((j 1).val - lnd t)) (j 2).val)

/-- The finished sum, the same on every device. -/
def fin : S2x512x256.Idx → F .bf16 := fun i =>
  St m 4 ⟨ivirt (i 0).val ((i 1).val / 32) % 16, Nat.mod_lt _ (by decide)⟩ i

/-- The output, the same on every device. -/
def outC : S512x512.Idx → F .f32 := fun j =>
  FloatOps.extf .f32 (by decide) (fin m (aI ((j 1).val / 256) (32 * virt ((j 1).val / 256) ((j 0).val / 32) + (j 0).val % 32) ((j 1).val % 256)))

/-- After the last step the rows a device kept are finished. -/
theorem fin_eq (f : ℕ) (hf : f < 2) (c : Dev nD) (i : S2x512x256.Idx) (hi : i ∈ aK 3 f c) : St m 4 c i = fin m i := by
  rw [mem_aK, base_last] at hi
  obtain ⟨h0, h1, h2⟩ := hi
  have h3 : rows 3 = 32 := rfl
  unfold fin
  congr 1
  have e : (i 1).val / 32 = virt f c.val := by omega
  have := ivirt_virt f hf c.val c.isLt
  refine Fin.ext ?_
  show c.val = ivirt (i 0).val ((i 1).val / 32) % 16
  rw [h0, e, this]
  have : c.val < 16 := c.isLt
  omega

/-! ## Rectangles of the two buffers -/

abbrev accM : Memref sig .tc .vmem S2x512x256 .bf16 := Memref.whole cc0_scratch0
abbrev bfM : Memref sig .tc .vmem S2x480x256 .bf16 := Memref.whole cc0_scratch1
abbrev xM : Memref sig .tc .vmem S512x256 .f32 := Memref.whole cc0_stg0_0
abbrev iM : Memref sig .tc .vmem S512x1 .i32 := Memref.whole cc0_stg1_0
abbrev wM : Memref sig .tc .vmem S2x256x512 .f32 := Memref.whole cc0_stg2_0
abbrev oM : Memref sig .tc .vmem S512x512 .f32 := Memref.whole cc0_stg3_0

section Rects
variable {t f h : ℕ} {c : Dev nD} {off : Fin 3 → ℕ}

theorem acc_set (hh : rows t = h) (ho : off = ![f, base t f c, 0])
    {inb : ∀ a, off a + (⟨3, ![1, h, 256]⟩ : Shape).size a ≤ S2x512x256.size a} :
    (Rect.unit (s := S2x512x256) off (⟨3, ![1, h, 256]⟩ : Shape).size inb).set = aK t f c := by
  subst ho hh
  ext i
  rw [Rect.mem_set_unit, mem_aK]
  constructor
  · intro hi
    have h0 : f ≤ (i 0).val ∧ (i 0).val < f + 1 := hi 0
    have h1 : base t f c ≤ (i 1).val ∧ (i 1).val < base t f c + rows t := hi 1
    omega
  · rintro ⟨h0, h1, h2⟩ a
    have l2 : (i 2).val < 256 := (i 2).isLt
    match a with
    | ⟨0, _⟩ => show f ≤ (i 0).val ∧ (i 0).val < f + 1; omega
    | ⟨1, _⟩ => exact ⟨h1, h2⟩
    | ⟨2, _⟩ => show 0 ≤ (i 2).val ∧ (i 2).val < 0 + 256; omega

theorem bf_set (hh : rows t = h) (ho : off = ![f, lnd t, 0])
    {inb : ∀ a, off a + (⟨3, ![1, h, 256]⟩ : Shape).size a ≤ S2x480x256.size a} :
    (Rect.unit (s := S2x480x256) off (⟨3, ![1, h, 256]⟩ : Shape).size inb).set = bR t f := by
  subst ho hh
  ext i
  rw [Rect.mem_set_unit, mem_bR]
  constructor
  · intro hi
    have h0 : f ≤ (i 0).val ∧ (i 0).val < f + 1 := hi 0
    have h1 : lnd t ≤ (i 1).val ∧ (i 1).val < lnd t + rows t := hi 1
    omega
  · rintro ⟨h0, h1, h2⟩ a
    have l2 : (i 2).val < 256 := (i 2).isLt
    match a with
    | ⟨0, _⟩ => show f ≤ (i 0).val ∧ (i 0).val < f + 1; omega
    | ⟨1, _⟩ => exact ⟨h1, h2⟩
    | ⟨2, _⟩ => show 0 ≤ (i 2).val ∧ (i 2).val < 0 + 256; omega

/-- A position of a rectangle of rows, placed in the accumulator. -/
theorem acc_emb (b : ℕ) (ho : off = ![f, b, 0])
    {inb : ∀ a, off a + (⟨3, ![1, h, 256]⟩ : Shape).size a ≤ S2x512x256.size a} (z : (⟨3, ![1, h, 256]⟩ : Shape).Idx) :
    (Rect.unit (s := S2x512x256) off (⟨3, ![1, h, 256]⟩ : Shape).size inb).emb z = aI f (b + (z 1).val) (z 2).val := by
  subst ho
  have l0 : (z 0).val < 1 := (z 0).isLt
  refine (aI_ext ?_ ?_ ?_).symm
  · refine (ValueKit.rect_emb_unit_val (s := S2x512x256) ![f, b, 0] (⟨3, ![1, h, 256]⟩ : Shape).size inb z 0).trans ?_
    show f + (z 0).val = f; omega
  · exact ValueKit.rect_emb_unit_val (s := S2x512x256) ![f, b, 0] (⟨3, ![1, h, 256]⟩ : Shape).size inb z 1
  · refine (ValueKit.rect_emb_unit_val (s := S2x512x256) ![f, b, 0] (⟨3, ![1, h, 256]⟩ : Shape).size inb z 2).trans ?_
    show 0 + (z 2).val = (z 2).val; omega

/-- A transfer of step `t` lands `bfC` in the partner's buffer. -/
theorem landed (ht : t < 4) (hf : f < 2) (hh : rows t = h) (n : Dev nD) (hn : n = pr t f c) {offD : Fin 3 → ℕ} (ho : off = ![f, base t f n, 0]) (hoD : offD = ![f, lnd t, 0])
    {inb : ∀ a, off a + (⟨3, ![1, h, 256]⟩ : Shape).size a ≤ S2x512x256.size a}
    {inbD : ∀ a, offD a + (⟨3, ![1, h, 256]⟩ : Shape).size a ≤ S2x480x256.size a} {hr hrD}
    {sq : (⟨3, ![1, h, 256]⟩ : Shape).Squeezes (⟨2, ![h, 256]⟩ : Shape)} (fd : (cc0_scratch1 : Ref sig .tc).ty.Contents (Elt F)) :
    ∀ i ∈ bR t f, (((bfM.slice (Rect.unit (s := S2x480x256) offD (⟨3, ![1, h, 256]⟩ : Shape).size inbD) hrD).squeeze _ sq).view.write (Elt F) fd
      (((accM.slice (Rect.unit (s := S2x512x256) off (⟨3, ![1, h, 256]⟩ : Shape).size inb) hr).squeeze _ sq).view.read (Elt F) (St m t c)) Finset.univ : (cc0_scratch1 : Ref sig .tc).ty.Contents (Elt F)) i
      = bfC m t n i := by
  intro i hi
  rw [← bf_set hh hoD (inb := inbD), ← Rect.map_emb_univ, Finset.mem_map] at hi
  obtain ⟨z, -, rfl⟩ := hi
  obtain ⟨y, rfl⟩ := (Shape.reshapeEquiv sq.numel_eq).surjective z
  refine (View.write_emb_of_mem (Val := Elt F) (v := ((bfM.slice (Rect.unit (s := S2x480x256) offD (⟨3, ![1, h, 256]⟩ : Shape).size inbD) hrD).squeeze _ sq).view) fd _ (Finset.mem_univ y)).trans ?_
  show St m t c ((Rect.unit (s := S2x512x256) off (⟨3, ![1, h, 256]⟩ : Shape).size inb).emb (Shape.reshapeEquiv sq.numel_eq y)) = _
  generalize Shape.reshapeEquiv sq.numel_eq y = z
  rw [acc_emb _ ho]
  subst hoD
  have e0 : ((Rect.unit (s := S2x480x256) ![f, lnd t, 0] (⟨3, ![1, h, 256]⟩ : Shape).size inbD).emb z 0).val = f := by
    refine (ValueKit.rect_emb_unit_val (s := S2x480x256) ![f, lnd t, 0] (⟨3, ![1, h, 256]⟩ : Shape).size inbD z 0).trans ?_
    have l0 : (z 0).val < 1 := (z 0).isLt
    show f + (z 0).val = f; omega
  have e1 : ((Rect.unit (s := S2x480x256) ![f, lnd t, 0] (⟨3, ![1, h, 256]⟩ : Shape).size inbD).emb z 1).val = lnd t + (z 1).val :=
    ValueKit.rect_emb_unit_val (s := S2x480x256) ![f, lnd t, 0] (⟨3, ![1, h, 256]⟩ : Shape).size inbD z 1
  have e2 : ((Rect.unit (s := S2x480x256) ![f, lnd t, 0] (⟨3, ![1, h, 256]⟩ : Shape).size inbD).emb z 2).val = (z 2).val := by
    refine (ValueKit.rect_emb_unit_val (s := S2x480x256) ![f, lnd t, 0] (⟨3, ![1, h, 256]⟩ : Shape).size inbD z 2).trans ?_
    show 0 + (z 2).val = (z 2).val; omega
  unfold bfC
  rw [e0, e1, e2, hn, pr_pr, Nat.add_sub_cancel_left]

/-- A transfer of the gather lands the source's contents. -/
theorem landedA (hh : rows t = h) (ho : off = ![f, base t f c, 0])
    {inb : ∀ a, off a + (⟨3, ![1, h, 256]⟩ : Shape).size a ≤ S2x512x256.size a} {hr}
    {sq : (⟨3, ![1, h, 256]⟩ : Shape).Squeezes (⟨2, ![h, 256]⟩ : Shape)} (fd fs : (cc0_scratch0 : Ref sig .tc).ty.Contents (Elt F)) :
    ∀ i ∈ aK t f c, (((accM.slice (Rect.unit (s := S2x512x256) off (⟨3, ![1, h, 256]⟩ : Shape).size inb) hr).squeeze _ sq).view.write (Elt F) fd
      (((accM.slice (Rect.unit (s := S2x512x256) off (⟨3, ![1, h, 256]⟩ : Shape).size inb) hr).squeeze _ sq).view.read (Elt F) fs) Finset.univ : (cc0_scratch0 : Ref sig .tc).ty.Contents (Elt F)) i
      = fs i := by
  intro i hi
  rw [← acc_set hh ho (inb := inb), ← Rect.map_emb_univ, Finset.mem_map] at hi
  obtain ⟨z, -, rfl⟩ := hi
  obtain ⟨y, rfl⟩ := (Shape.reshapeEquiv sq.numel_eq).surjective z
  exact View.write_emb_of_mem (Val := Elt F) (v := ((accM.slice (Rect.unit (s := S2x512x256) off (⟨3, ![1, h, 256]⟩ : Shape).size inb) hr).squeeze _ sq).view) fd _ (Finset.mem_univ y)

/-- A rectangle of rows of the accumulator overwritten. -/
theorem acc_write (hh : rows t = h) (ho : off = ![f, base t f c, 0])
    {inb : ∀ a, off a + (⟨3, ![1, h, 256]⟩ : Shape).size a ≤ S2x512x256.size a}
    (fd g : (cc0_scratch0 : Ref sig .tc).ty.Contents (Elt F)) (w : (⟨3, ![1, h, 256]⟩ : Shape).Idx → F .bf16)
    (hw : ∀ z, w z = g (aI f (base t f c + (z 1).val) (z 2).val)) :
    ∀ i ∈ aK t f c, ((accM.access (Rect.unit (s := S2x512x256) off (⟨3, ![1, h, 256]⟩ : Shape).size inb) : View sig .tc _ _ _).write (Elt F) fd w Finset.univ
      : (cc0_scratch0 : Ref sig .tc).ty.Contents (Elt F)) i = g i := by
  intro i hi
  rw [← acc_set hh ho (inb := inb), ← Rect.map_emb_univ, Finset.mem_map] at hi
  obtain ⟨z, -, rfl⟩ := hi
  refine (View.write_emb_of_mem (Val := Elt F) (v := (accM.access (Rect.unit (s := S2x512x256) off (⟨3, ![1, h, 256]⟩ : Shape).size inb) : View sig .tc _ _ _)) fd w (Finset.mem_univ z)).trans ?_
  rw [acc_emb _ ho]
  exact hw z

theorem acc_read (b : ℕ) (ho : off = ![f, b, 0])
    {inb : ∀ a, off a + (⟨3, ![1, h, 256]⟩ : Shape).size a ≤ S2x512x256.size a} (fs : (cc0_scratch0 : Ref sig .tc).ty.Contents (Elt F)) (z : (⟨3, ![1, h, 256]⟩ : Shape).Idx) :
    accM.view.readAt (Elt F) (Rect.unit (s := S2x512x256) off (⟨3, ![1, h, 256]⟩ : Shape).size inb).toLoadRect fs z = fs (aI f (b + (z 1).val) (z 2).val) := by
  rw [← acc_emb b ho (inb := inb)]
  rfl

/-- The landed rows read: at row `z` what the partner held of the rows device `c` keeps. -/
theorem bf_read (ho : off = ![f, lnd t, 0])
    {inb : ∀ a, off a + (⟨3, ![1, h, 256]⟩ : Shape).size a ≤ S2x480x256.size a} (z : (⟨3, ![1, h, 256]⟩ : Shape).Idx) :
    bfM.view.readAt (Elt F) (Rect.unit (s := S2x480x256) off (⟨3, ![1, h, 256]⟩ : Shape).size inb).toLoadRect (bfC m t c) z
      = St m t (pr t f c) (aI f (base t f c + (z 1).val) (z 2).val) := by
  subst ho
  show bfC m t c ((Rect.unit (s := S2x480x256) ![f, lnd t, 0] (⟨3, ![1, h, 256]⟩ : Shape).size inb).emb z) = _
  have e0 : ((Rect.unit (s := S2x480x256) ![f, lnd t, 0] (⟨3, ![1, h, 256]⟩ : Shape).size inb).emb z 0).val = f := by
    refine (ValueKit.rect_emb_unit_val (s := S2x480x256) ![f, lnd t, 0] (⟨3, ![1, h, 256]⟩ : Shape).size inb z 0).trans ?_
    have l0 : (z 0).val < 1 := (z 0).isLt
    show f + (z 0).val = f; omega
  have e1 : ((Rect.unit (s := S2x480x256) ![f, lnd t, 0] (⟨3, ![1, h, 256]⟩ : Shape).size inb).emb z 1).val = lnd t + (z 1).val :=
    ValueKit.rect_emb_unit_val (s := S2x480x256) ![f, lnd t, 0] (⟨3, ![1, h, 256]⟩ : Shape).size inb z 1
  have e2 : ((Rect.unit (s := S2x480x256) ![f, lnd t, 0] (⟨3, ![1, h, 256]⟩ : Shape).size inb).emb z 2).val = (z 2).val := by
    refine (ValueKit.rect_emb_unit_val (s := S2x480x256) ![f, lnd t, 0] (⟨3, ![1, h, 256]⟩ : Shape).size inb z 2).trans ?_
    show 0 + (z 2).val = (z 2).val; omega
  unfold bfC
  rw [e0, e1, e2, Nat.add_sub_cancel_left]

theorem St_succ (hf : f < 2) (t : ℕ) (c : Dev nD) (b d : ℕ) : St m (t + 1) c (aI f b d) = addE (St m t c (aI f b d)) (St m t (pr t f c) (aI f b d)) := by
  show addE _ (St m t (pr t ((aI f b d) 0).val c) _) = _
  rw [aI_0 hf]

end Rects

end Cert.KernelIdeal.Cube

end
-- ==== Proof.Schedule.lean ====
/- The schedule the devices keep: what each semaphore's counter stands for, what a device owes and in which order, and
   the facts shared by all steps. -/
module

public import proofs.«01_k».proof.Proof.Contents
public import Mathlib.Algebra.BigOperators.Intervals

@[expose] public section

noncomputable section

namespace Cert.KernelIdeal.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Ownership -/

/-- Ownership of part of device `c`'s accumulator. -/
def accP (c : Dev nD) (S : Finset S2x512x256.Idx) (f : S2x512x256.Idx → F .bf16) : sProp 𝕄 :=
  ((c : Thread nD τ).loc cc0_scratch0) ↦[S]{fullShare} f
/-- Ownership of part of device `c`'s landing buffer. -/
def bfP (c : Dev nD) (S : Finset S2x480x256.Idx) (f : S2x480x256.Idx → F .bf16) : sProp 𝕄 :=
  ((c : Thread nD τ).loc cc0_scratch1) ↦[S]{fullShare} f
def bfE (c : Dev nD) (S : Finset S2x480x256.Idx) : sProp 𝕄 := iprop(∃ f, bfP (F := F) c S f)

omit [FloatOps F] in
instance accP_storable (c : Dev nD) (S) (f) : BI.Storable (upEmb : UEmb _ 𝕄) (accP (F := F) c S f) := by unfold accP; infer_instance
omit [FloatOps F] in
instance bfP_storable (c : Dev nD) (S) (f) : BI.Storable (upEmb : UEmb _ 𝕄) (bfP (F := F) c S f) := by unfold bfP; infer_instance
omit [FloatOps F] in
instance bfE_storable (c : Dev nD) (S) : BI.Storable (upEmb : UEmb _ 𝕄) (bfE (F := F) c S) := by unfold bfE; infer_instance

omit [FloatOps F] in
theorem accP_congr {c : Dev nD} {S : Finset S2x512x256.Idx} {f g : S2x512x256.Idx → F .bf16} (h : ∀ i ∈ S, f i = g i) : accP c S f = accP c S g :=
  pointsTo_congr h
omit [FloatOps F] in
theorem bfP_congr {c : Dev nD} {S : Finset S2x480x256.Idx} {f g : S2x480x256.Idx → F .bf16} (h : ∀ i ∈ S, f i = g i) : bfP c S f = bfP c S g :=
  pointsTo_congr h

omit [FloatOps F] in
theorem accP_union {c : Dev nD} {S T : Finset S2x512x256.Idx} (f : S2x512x256.Idx → F .bf16) (h : Disjoint S T) :
    (accP c (S ∪ T) f : sProp 𝕄) ⊣⊢ iprop(accP c S f ∗ accP c T f) := pointsTo_union h
omit [FloatOps F] in
theorem bfE_split {c : Dev nD} {S T : Finset S2x480x256.Idx} (h : Disjoint S T) :
    (bfE c (S ∪ T) : sProp 𝕄) ⊢ iprop(bfE c S ∗ bfE c T) := by
  unfold bfE bfP
  iintro ⟨%f, H⟩
  ihave H := (pointsTo_union h).1 $$ H
  icases H with ⟨H1, H2⟩
  isplitl [H1]
  · iexists f; iexact H1
  · iexists f; iexact H2
omit [FloatOps F] in
theorem bfE_join {c : Dev nD} {S T : Finset S2x480x256.Idx} (h : Disjoint S T) :
    iprop(bfE c S ∗ bfE c T) ⊢ (bfE c (S ∪ T) : sProp 𝕄) := by
  unfold bfE bfP
  iintro ⟨⟨%f, H1⟩, ⟨%g, H2⟩⟩
  iexists (T.piecewise g f)
  iapply (pointsTo_join (f := f) (g := g) h)
  isplitl [H1]
  · iexact H1
  · iexact H2

/-! ## The schedule -/

/-- What a barrier's duty `d` hands its owner: its neighbour's two landing regions across axis `d`. -/
def barPay (d : ℕ) (c : Dev nD) : sProp 𝕄 :=
  iprop(bfE (F := F) (xr d c) (bR (tb 0 d) 0) ∗ bfE (F := F) (xr d c) (bR (tb 1 d) 1))
/-- What a transfer semaphore's duty hands its owner. -/
def dmaPay (κ j f : ℕ) (c : Dev nD) : sProp 𝕄 :=
  if κ = 1 then iprop(bfP c (bR j f) (bfC m j c) ∗ accP (pr j f c) (aK j f c) (St m j (pr j f c)))
  else if κ = 2 then accP c (aK (3 - j) f c) (fin m)
  else if κ = 3 then accP c (aK (3 - j) f (pr (3 - j) f c)) (fin m)
  else iprop(emp)

omit [FloatOps F] in
instance barPay_storable (d : ℕ) (c : Dev nD) : BI.Storable (upEmb : UEmb _ 𝕄) (barPay (F := F) d c) := by unfold barPay; infer_instance
instance dmaPay_storable (κ j f : ℕ) (c : Dev nD) : BI.Storable (upEmb : UEmb _ 𝕄) (dmaPay (F := F) m κ j f c) := by
  unfold dmaPay; (repeat' split) <;> infer_instance

/-- The step of the reduction whose rows a transfer moves. -/
def tOf (κ j : ℕ) : ℕ := if κ < 2 then j else 3 - j

def dutiesOf : SemLoc sig → Finset ℕ
  | .reg s => if s = barS then Finset.range 4 else ∅
  | .dma q => if 4 ≤ q.val then {0} else ∅
def amountAt : SemLoc sig → ℕ
  | .reg _ => 1
  | .dma q => NR (tOf ((q.val - 4) / 8) ((q.val - 4) / 2 % 4))
def payAt (d : ℕ) (c : Dev nD) : SemLoc sig → sProp 𝕄
  | .reg _ => barPay d c
  | .dma q => dmaPay m ((q.val - 4) / 8) ((q.val - 4) / 2 % 4) ((q.val - 4) % 2) c

instance payAt_storable (d : ℕ) (c : Dev nD) (s : SemLoc sig) : BI.Storable (upEmb : UEmb _ 𝕄) (payAt (F := F) m d c s) := by
  cases s <;> (unfold payAt; infer_instance)

def Rd : Rounds.Schedule (GSem nD τ sig) ℕ 𝕄 where
  duties g r := if r = 0 ∧ g.1.2 = .tc then dutiesOf g.2 else ∅
  unitless _ := False
  amount g _ _ := amountAt g.2
  payload g _ d := payAt m d g.1.1 g.2
  amount_pos g _ _ _ := by
    cases g.2 with
    | reg s => exact Nat.one_pos
    | dma q => exact NR_pos _

instance Rd_payload_storable (g : GSem nD τ sig) (r : ℕ) (d : ℕ) :
    BI.Storable (upEmb : UEmb _ 𝕄) ((Rd (F := F) m).payload g r d) := payAt_storable m d g.1.1 g.2

section Sched
variable (c : Dev nD)

theorem sq_val {κ j f : ℕ} (hκ : κ < 4) (hj : j < 4) (hf : f < 2) : (sq κ j f).val = 4 + 8 * κ + 2 * j + f := by
  show (4 + 8 * κ + 2 * j + f) % 36 = _
  omega
theorem sq_κ {κ j f : ℕ} (hκ : κ < 4) (hj : j < 4) (hf : f < 2) : ((sq κ j f).val - 4) / 8 = κ := by rw [sq_val hκ hj hf]; omega
theorem sq_j {κ j f : ℕ} (hκ : κ < 4) (hj : j < 4) (hf : f < 2) : ((sq κ j f).val - 4) / 2 % 4 = j := by rw [sq_val hκ hj hf]; omega
theorem sq_f {κ j f : ℕ} (hκ : κ < 4) (hj : j < 4) (hf : f < 2) : ((sq κ j f).val - 4) % 2 = f := by rw [sq_val hκ hj hf]; omega

theorem duties_bar : (Rd (F := F) m).duties (barCell c) 0 = Finset.range 4 := by
  show (if (0 = 0 ∧ (barCell c).1.2 = .tc) then (if barS = barS then Finset.range 4 else ∅ : Finset ℕ) else ∅) = _
  rw [if_pos ⟨rfl, rfl⟩, if_pos rfl]
theorem duties_dma {κ j f : ℕ} (hκ : κ < 4) (hj : j < 4) (hf : f < 2) : (Rd (F := F) m).duties (dcell κ j f c) 0 = {0} := by
  show (if (0 = 0 ∧ (dcell κ j f c).1.2 = .tc) then (if 4 ≤ (sq κ j f).val then {0} else ∅ : Finset ℕ) else ∅) = _
  rw [if_pos ⟨rfl, rfl⟩, if_pos (by rw [sq_val hκ hj hf]; omega)]
theorem duties_later (g : GSem nD τ sig) : ∀ r, 1 ≤ r → (Rd (F := F) m).duties g r = ∅ :=
  fun r hr => if_neg fun h => by omega
theorem amount_bar (d : ℕ) : (Rd (F := F) m).amount (barCell c) 0 d = 1 := rfl
theorem amount_dma {κ j f : ℕ} (hκ : κ < 4) (hj : j < 4) (hf : f < 2) (d : ℕ) : (Rd (F := F) m).amount (dcell κ j f c) 0 d = NR (tOf κ j) := by
  show NR (tOf (((sq κ j f).val - 4) / 8) (((sq κ j f).val - 4) / 2 % 4)) = _
  rw [sq_κ hκ hj hf, sq_j hκ hj hf]
theorem expect_bar : (Rd (F := F) m).expect (barCell c) 0 = 4 := by
  unfold Schedule.expect Schedule.amountOf
  rw [duties_bar, Finset.sum_congr rfl fun d _ => amount_bar m c d]; rfl
theorem expect_dma {κ j f : ℕ} (hκ : κ < 4) (hj : j < 4) (hf : f < 2) : (Rd (F := F) m).expect (dcell κ j f c) 0 = NR (tOf κ j) := by
  unfold Schedule.expect Schedule.amountOf; rw [duties_dma m c hκ hj hf, Finset.sum_singleton, amount_dma m c hκ hj hf]
theorem payload_bar (d : ℕ) : (Rd (F := F) m).payload (barCell c) 0 d = barPay d c := rfl
theorem payload_dma {κ j f : ℕ} (hκ : κ < 4) (hj : j < 4) (hf : f < 2) (d : ℕ) : (Rd (F := F) m).payload (dcell κ j f c) 0 d = dmaPay m κ j f c := by
  show dmaPay m (((sq κ j f).val - 4) / 8) (((sq κ j f).val - 4) / 2 % 4) (((sq κ j f).val - 4) % 2) c = _
  rw [sq_κ hκ hj hf, sq_j hκ hj hf, sq_f hκ hj hf]
theorem rest_bar : bigSep ((Rd (F := F) m).duties (barCell c) 0 \ ∅) (fun d => (Rd (F := F) m).payload (barCell c) 0 d)
    = iprop(barPay 0 c ∗ barPay 1 c ∗ barPay 2 c ∗ barPay 3 c) := by
  rw [Finset.sdiff_empty, duties_bar, bigSep_eq_bigSepL_of_eq [0, 1, 2, 3] (by decide) (by decide)]; rfl
theorem rest_dma {κ j f : ℕ} (hκ : κ < 4) (hj : j < 4) (hf : f < 2) :
    bigSep ((Rd (F := F) m).duties (dcell κ j f c) 0 \ ∅) (fun d => (Rd (F := F) m).payload (dcell κ j f c) 0 d) = dmaPay m κ j f c := by
  rw [Finset.sdiff_empty, duties_dma m c hκ hj hf, bigSep_singleton, payload_dma m c hκ hj hf]

end Sched

/-! ## What a device owes -/

/-- The `k`th payment of device `c`: the cell and the amount. -/
def pay (c : Dev nD) (k : ℕ) : GSem nD τ sig × ℕ :=
  if k < 4 then (barCell (xr k c), 1)
  else if k < 12 then (dcell 1 ((k - 4) / 2) ((k - 4) % 2) (pr ((k - 4) / 2) ((k - 4) % 2) c), NR ((k - 4) / 2))
  else (dcell 3 ((k - 12) / 2) ((k - 12) % 2) (pr (3 - (k - 12) / 2) ((k - 12) % 2) c), NR (3 - (k - 12) / 2))

theorem pay_bar (c : Dev nD) {k : ℕ} (hk : k < 4) : pay c k = (barCell (xr k c), 1) := if_pos hk
theorem pay_rs (c : Dev nD) {t f : ℕ} (ht : t < 4) (hf : f < 2) : pay c (4 + 2 * t + f) = (dcell 1 t f (pr t f c), NR t) := by
  unfold pay
  rw [if_neg (by omega), if_pos (by omega)]
  have h1 : (4 + 2 * t + f - 4) / 2 = t := by omega
  have h2 : (4 + 2 * t + f - 4) % 2 = f := by omega
  rw [h1, h2]
theorem pay_ag (c : Dev nD) {u f : ℕ} (hu : u < 4) (hf : f < 2) : pay c (12 + 2 * u + f) = (dcell 3 u f (pr (3 - u) f c), NR (3 - u)) := by
  unfold pay
  rw [if_neg (by omega), if_neg (by omega)]
  have h1 : (12 + 2 * u + f - 12) / 2 = u := by omega
  have h2 : (12 + 2 * u + f - 12) % 2 = f := by omega
  rw [h1, h2]

/-- What device `c` owes when it has made its first `n` payments. -/
def Od (c : Dev nD) (n : ℕ) : CellTallies nD τ sig Unit := ∑ k ∈ Finset.Ico n 20, tallyAt (pay c k).1 () (pay c k).2
theorem Od_step (c : Dev nD) {n : ℕ} (hn : n < 20) : Od c n = Od c (n + 1) + tallyAt (pay c n).1 () (pay c n).2 := by
  unfold Od; rw [Finset.sum_eq_sum_Ico_succ_bot hn, add_comm]
theorem Od_last (c : Dev nD) : Od c 20 = 0 := by unfold Od; rw [Finset.Ico_self, Finset.sum_empty]

def Ow (c : Dev nD) (n : ℕ) : sProp 𝕄 := iprop(∃ W, owes (c : Thread nD τ) (Od c n) W)

theorem Od_pos {c : Dev nD} {n : ℕ} {g : GSem nD τ sig} {u : Unit} (h : 0 < Od c n g u) : ∃ k, n ≤ k ∧ k < 20 ∧ g = (pay c k).1 := by
  unfold Od at h
  rw [Finset.sum_apply, Finsupp.finset_sum_apply] at h
  obtain ⟨k, hk, hp⟩ := Finset.exists_ne_zero_of_sum_ne_zero (Nat.pos_iff_ne_zero.mp h)
  rw [Finset.mem_Ico] at hk
  refine ⟨k, hk.1, hk.2, ?_⟩
  rw [tallyAt_apply] at hp
  by_contra hg
  exact hp (if_neg fun h' => hg h'.1)

def L (g : GSem nD τ sig) : Finset Unit := if g.1.2 = .tc then {()} else ∅
/-- Barriers at 1, the reduction's receives above them step by step, then the gather's; the rest at 0. -/
def lvS : SemLoc sig → ℕ
  | .reg s => if s = barS then 1 else 0
  | .dma q => if (q.val - 4) / 8 = 1 then 2 + (q.val - 4) / 2 % 4 else if (q.val - 4) / 8 = 3 then 6 + (q.val - 4) / 2 % 4 else 0
def lv (g : GSem nD τ sig) (_ : Unit) : ℕ := lvS g.2
def lvp (k : ℕ) : ℕ := if k < 4 then 1 else if k < 12 then 2 + (k - 4) / 2 else 6 + (k - 12) / 2

theorem L_of_ne (g : GSem nD τ sig) (h : g.1.2 ≠ .tc) : L g = ∅ := if_neg h
theorem L_tc (c : Dev nD) (sm : SemLoc sig) : L ((c : Thread nD τ), sm) = {()} := if_pos rfl

theorem lv_dma {κ j f : ℕ} (hκ : κ < 4) (hj : j < 4) (hf : f < 2) : lvS (.dma (sq κ j f)) = if κ = 1 then 2 + j else if κ = 3 then 6 + j else 0 := by
  show (if ((sq κ j f).val - 4) / 8 = 1 then 2 + ((sq κ j f).val - 4) / 2 % 4 else if ((sq κ j f).val - 4) / 8 = 3 then 6 + ((sq κ j f).val - 4) / 2 % 4 else 0) = _
  rw [sq_κ hκ hj hf, sq_j hκ hj hf]

theorem lv_bar : lvS (.reg barS) = 1 := by
  show (if barS = barS then 1 else 0) = 1
  exact if_pos rfl
theorem lvp_bar (k : ℕ) (h : 4 ≤ k) : 1 < lvp k := by
  unfold lvp; (repeat' split) <;> omega
theorem lvp_dma (κ j n : ℕ) (hn : 4 + 2 * (j + 1) ≤ n) (hn' : κ = 3 → 12 + 2 * (j + 1) ≤ n) (k : ℕ) (h : n ≤ k) :
    (if κ = 1 then 2 + j else if κ = 3 then 6 + j else 0) < lvp k := by
  unfold lvp; (repeat' split) <;> omega

theorem pay_facts (c : Dev nD) {k : ℕ} (hk : k < 20) : lvS (pay c k).1.2 = lvp k ∧ (pay c k).1.1.2 = .tc := by
  unfold pay lvp
  split
  · exact ⟨lv_bar, rfl⟩
  split
  · exact ⟨by rw [lv_dma (by decide) (by omega) (by omega)]; exact if_pos rfl, rfl⟩
  · exact ⟨by rw [lv_dma (by decide) (by omega) (by omega), if_neg (by decide), if_pos rfl], rfl⟩

omit [FloatOps F] in
theorem mayWait (c : Dev nD) (sm : SemLoc sig) (n l : ℕ) (hl : lvS sm ≤ l) (h : ∀ k, n ≤ k → k < 20 → l < lvp k) :
    (levAts L lv : sProp 𝕄) ⊢ MayWait (c : Thread nD τ) sm () (Od c n) :=
  MayOwe.of_cut (L := L) (lev := lv) l (fun p hp => by rw [Finset.mem_singleton.mp hp, L_tc]; exact Finset.mem_singleton_self _)
    (fun g u hg => by
      obtain ⟨k, h1, h2, rfl⟩ := Od_pos hg
      unfold L
      rw [if_pos (pay_facts c h2).2]
      exact Finset.mem_singleton_self _)
    (fun p hp => by rw [Finset.mem_singleton.mp hp]; exact hl)
    (fun g u hg => by
      obtain ⟨k, h1, h2, rfl⟩ := Od_pos hg
      show l < lvS (pay c k).1.2
      rw [(pay_facts c h2).1]
      exact h k h1 h2)

/-! ## The cells -/

set_option backward.proofsInPublic true in
/-- The kernel's own semaphores, the transfers'; -/
def osem (k : Fin 32) : SemLoc sig := .dma ⟨4 + k.val, by have := k.isLt; show 4 + k.val < 36; omega⟩
/-- and with the barrier's all that the proof keeps. -/
def csem (k : Fin 33) : SemLoc sig := if h : k.val < 32 then osem ⟨k.val, h⟩ else .reg barS
abbrev kcell (ck : Dev nD × Fin 33) : GSem nD τ sig := ((ck.1 : Thread nD τ), csem ck.2)

set_option backward.proofsInPublic true in
def kx (κ j f : ℕ) : Fin 33 := ⟨(8 * κ + 2 * j + f) % 33, Nat.mod_lt _ (by decide)⟩
theorem kcell_dma (c : Dev nD) {κ j f : ℕ} (hκ : κ < 4) (hj : j < 4) (hf : f < 2) : kcell (c, kx κ j f) = dcell κ j f c := by
  have hv : (kx κ j f).val = 8 * κ + 2 * j + f := by show (8 * κ + 2 * j + f) % 33 = _; omega
  show ((c : Thread nD τ), csem (kx κ j f)) = ((c : Thread nD τ), SemLoc.dma (sq κ j f))
  congr 1
  unfold csem
  rw [dif_pos (by omega)]
  unfold osem
  congr 1
  refine Fin.ext ?_
  rw [sq_val hκ hj hf]
  show 4 + (kx κ j f).val = _
  omega

variable (K : Dev nD × Fin 33 → ℕ)

def records : sProp 𝕄 :=
  iprop((bigSep Finset.univ fun ck : Dev nD × Fin 33 => cellInv ER (Rd m) (K ck) (kcell ck))
    ∗ bigSep Finset.univ fun ck : Dev nD × Fin 33 => reached ER (kcell ck) 0)
instance records_persistent : BI.Persistent (records m K) := by unfold records; infer_instance

/-- What every step may use: the cells' invariants and the levels. -/
def Ctx : sProp 𝕄 := iprop(records m K ∗ levAts L lv)
instance Ctx_persistent : BI.Persistent (Ctx m K) := by unfold Ctx; infer_instance

theorem inv_elim (ck : Dev nD × Fin 33) :
    (bigSep Finset.univ fun ck : Dev nD × Fin 33 => (cellInv ER (Rd m) (K ck) (kcell ck) : sProp 𝕄)) ⊢ cellInv ER (Rd m) (K ck) (kcell ck) :=
  bigSep_elim (Finset.mem_univ ck)
theorem reached_elim (ck : Dev nD × Fin 33) :
    (bigSep Finset.univ fun ck : Dev nD × Fin 33 => (reached ER (kcell ck) 0 : sProp 𝕄)) ⊢ reached ER (kcell ck) 0 :=
  bigSep_elim (Finset.mem_univ ck)
theorem ctx_lev : Ctx m K ⊢ (levAts L lv : sProp 𝕄) := by unfold Ctx; iintro ⟨-, H⟩; iexact H
theorem ctx_inv (ck : Dev nD × Fin 33) : Ctx m K ⊢ (cellInv ER (Rd m) (K ck) (kcell ck) : sProp 𝕄) := by
  unfold Ctx records
  iintro ⟨⟨H, -⟩, -⟩
  iapply (inv_elim m K ck) $$ H
theorem ctx_reached (ck : Dev nD × Fin 33) : Ctx m K ⊢ (reached ER (kcell ck) 0 : sProp 𝕄) := by
  unfold Ctx records
  iintro ⟨⟨-, H⟩, -⟩
  iapply (reached_elim ck) $$ H
theorem ctx_bar (c : Dev nD) : Ctx m K ⊢ (cellInv ER (Rd m) (K (c, 32)) (barCell c) : sProp 𝕄) := ctx_inv m K (c, 32)
theorem ctx_bar_reached (c : Dev nD) : Ctx m K ⊢ (reached ER (barCell c) 0 : sProp 𝕄) := ctx_reached m K (c, 32)
theorem ctx_dma (c : Dev nD) {κ j f : ℕ} (hκ : κ < 4) (hj : j < 4) (hf : f < 2) :
    Ctx m K ⊢ (cellInv ER (Rd m) (K (c, kx κ j f)) (dcell κ j f c) : sProp 𝕄) := by
  rw [← kcell_dma c hκ hj hf]; exact ctx_inv m K (c, kx κ j f)
theorem ctx_dma_reached (c : Dev nD) {κ j f : ℕ} (hκ : κ < 4) (hj : j < 4) (hf : f < 2) :
    Ctx m K ⊢ (reached ER (dcell κ j f c) 0 : sProp 𝕄) := by
  rw [← kcell_dma c hκ hj hf]; exact ctx_reached m K (c, kx κ j f)

abbrev 𝒱₀ : Variants := Variants.none

end Cert.KernelIdeal.Cube

end
-- ==== Proof.Rules.lean ====
/- One rule for each kind of step the kernel takes: a signal, the wait on the barrier, a transfer of the reduction, one of
   the gather, a wait on either side of them, and the loads and stores between. -/
module

public import proofs.«01_k».proof.Proof.Schedule

@[expose] public section

noncomputable section

namespace Cert.KernelIdeal.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 33 → ℕ)

section Ops

/-- The `d`th signal, to the neighbour across axis `d`, with the landing regions that neighbour will fill. -/
theorem bar_signal (d : ℕ) (hd : d < 4) (c n : Dev nD) (hn : n = xr d c) {v : ℤ} (hv : v = ((1 : ℕ) : ℤ)) {s : Sem sig} (hs : s = barS)
    {α : Type} {Q : α → sProp 𝕄} {k : PUnit → Prog (TpuEff nD τ sig (Elt F) Λ₀ .tc) α} :
    iprop(Ctx m K ∗ Ow c d ∗ dutyTok ER (barCell (xr d c)) 0 d ∗ bfE (F := F) c (bR (tb 0 d) 0) ∗ bfE (F := F) c (bR (tb 1 d) 1))
      ⊢ iprop((Ow c (d + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n) s v) k) Q) := by
  subst hn hv hs
  unfold Ow
  iintro ⟨#HC, ⟨%W, HO⟩, Ht, H0, H1⟩ Hk
  iapply (Rounds.wp_signal 𝒱₀ ER (Rd m) (c : Thread nD τ) none (dst := (xr d c : Thread nD τ)) (κ := K (xr d c, 32))
      (O₀ := Od c d) (d := d) (by rw [duties_bar]; exact Finset.mem_range.mpr hd) (amount_bar m (xr d c) d) () (Od c (d + 1))
      (by rw [Od_step c (by omega : d < 20), pay_bar c hd])) $$ [HO Ht H0 H1]
  · isplitr; · iapply (ctx_bar m K (xr d c)); iexact HC
    isplitl [HO]; · iexact HO
    isplitl [Ht]; · iexact Ht
    isplitl [H0 H1]
    · rw [payload_bar]; unfold barPay; rw [xr_xr d hd]
      isplitl [H0] <;> iassumption
    · iapply (ctx_bar_reached m K (xr d c)); iexact HC
  iintro HO
  iapply Hk
  iexists W; iexact HO

/-- The wait on the barrier: every neighbour's landing regions. -/
theorem bar_wait (c : Dev nD) {v : ℤ} (hv : v = ((4 : ℕ) : ℤ)) {s : Sem sig} (hs : s = barS)
    {α : Type} {Q : α → sProp 𝕄} {k : PUnit → Prog (TpuEff nD τ sig (Elt F) Λ₀ .tc) α} :
    iprop(Ctx m K ∗ cred (tallyAt (barCell c) () 4) ∗ Ow c 4 ∗ atPos ER (barCell c) 0 ∅ 0)
      ⊢ iprop(((Ow c 4 ∗ semVal (barCell c) 0 ∗ barPay 0 c ∗ barPay 1 c ∗ barPay 2 c ∗ barPay 3 c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait s v) k) Q) := by
  subst hv hs
  unfold Ow
  iintro ⟨#HC, Hc, ⟨%W, HO⟩, Hat⟩ Hk
  ihave #Hlev := (@ctx_lev F _ m K) $$ HC
  iapply (Rounds.wp_wait_rest_token 𝒱₀ ER (Rd m) (c : Thread nD τ) none (κ := K (c, 32))
      (wpE_semWait_eq 𝒱₀ (c : Thread nD τ) none Set.univ) (Set.mem_univ _) () (O := Od c 4) (W := W) (R := 0) (m := 0) (T := ∅)
      (by rw [expect_bar])) $$ [Hc HO Hat]
  · isplitr; · iapply (ctx_bar m K c); iexact HC
    isplitl [Hc]; · iexact Hc
    isplitl [HO]; · iexact HO
    isplitr
    · iapply (mayWait c (.reg barS) 4 1 (le_of_eq lv_bar) (fun k h1 _ => lvp_bar k h1))
      iexact Hlev
    iexact Hat
  iintro ⟨HO, Hat, -, Hpay⟩
  ihave Hp := (Entails.of_eq (rest_bar m c)) $$ Hpay
  imod (Rounds.cell_close ER (Rd m) (Set.mem_univ (K (c, 32))) (fun h => h) (R := 0 + 1) (duties_later m (barCell c))) $$ [Hat] with Hz
  · isplitr; · iapply (ctx_bar m K c); iexact HC
    iexact Hat
  iapply Hk
  isplitl [HO]; · iexists _; iexact HO
  isplitl [Hz]; · iexact Hz
  iexact Hp

/-- A wait on a transfer semaphore, for what its duty hands over. -/
theorem dma_wait (κ j f n : ℕ) (hκ : κ < 4) (hj : j < 4) (hf : f < 2) (hn : 4 + 2 * (j + 1) ≤ n) (hn' : κ = 3 → 12 + 2 * (j + 1) ≤ n) (c : Dev nD)
    {h : ℕ} (hh : rows (tOf κ j) = h)
    {q : DmaSem sig} (hq : q = sq κ j f) {src dst : Memref sig .tc .vmem (⟨2, ![h, 256]⟩ : Shape) .bf16} {hsrc : src.view.WordExact} {hdst : dst.view.WordExact}
    {α : Type} {Q : α → sProp 𝕄} {k : PUnit → Prog (TpuEff nD τ sig (Elt F) Λ₀ .tc) α} :
    iprop(Ctx m K ∗ cred (tallyAt (dcell κ j f c) () (NR (tOf κ j))) ∗ Ow c n ∗ atPos ER (dcell κ j f c) 0 ∅ 0)
      ⊢ iprop(((Ow c n ∗ semVal (dcell κ j f c) 0 ∗ dmaPay m κ j f c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq hh
  have hN : dst.view.dmaCredit = NR (tOf κ j) := (NR_eq _).symm
  rw [← hN]
  unfold Ow
  iintro ⟨#HC, Hc, ⟨%W, HO⟩, Hat⟩ Hk
  ihave #Hlev := (@ctx_lev F _ m K) $$ HC
  iapply (Rounds.wp_wait_rest_token 𝒱₀ ER (Rd m) (c : Thread nD τ) none (κ := K (c, kx κ j f)) (sm := .dma (sq κ j f)) (k' := dst.view.dmaCredit)
      (wpE_waitDma2_eq 𝒱₀ (c : Thread nD τ) none Set.univ) (Set.mem_univ _) () (O := Od c n) (W := W) (R := 0) (m := 0) (T := ∅)
      (by rw [expect_dma m c hκ hj hf, Nat.zero_add, hN])) $$ [Hc HO Hat]
  · isplitr; · iapply (ctx_dma m K c hκ hj hf); iexact HC
    isplitl [Hc]; · iexact Hc
    isplitl [HO]; · iexact HO
    isplitr
    · iapply (mayWait c (.dma (sq κ j f)) n (lvS (.dma (sq κ j f))) (le_refl _) (fun k h1 _ => by
        rw [lv_dma hκ hj hf]; exact lvp_dma κ j n hn hn' k h1))
      iexact Hlev
    iexact Hat
  iintro ⟨HO, Hat, -, Hpay⟩
  ihave Hp := (Entails.of_eq (rest_dma m c hκ hj hf)) $$ Hpay
  imod (Rounds.cell_close ER (Rd m) (Set.mem_univ (K (c, kx κ j f))) (fun h => h) (R := 0 + 1) (duties_later m (dcell κ j f c))) $$ [Hat] with Hz
  · isplitr; · iapply (ctx_dma m K c hκ hj hf); iexact HC
    iexact Hat
  iapply Hk
  isplitl [HO]; · iexists _; iexact HO
  isplitl [Hz]; · iexact Hz
  iexact Hp

abbrev accR (off : Fin 3 → ℕ) (h : ℕ) (inb : ∀ a, off a + (⟨3, ![1, h, 256]⟩ : Shape).size a ≤ S2x512x256.size a) : Rect S2x512x256 :=
  Rect.unit (s := S2x512x256) off (⟨3, ![1, h, 256]⟩ : Shape).size inb
abbrev bfR (off : Fin 3 → ℕ) (h : ℕ) (inb : ∀ a, off a + (⟨3, ![1, h, 256]⟩ : Shape).size a ≤ S2x480x256.size a) : Rect S2x480x256 :=
  Rect.unit (s := S2x480x256) off (⟨3, ![1, h, 256]⟩ : Shape).size inb

/-- A transfer of the reduction: the rows the partner keeps, into its landing buffer. -/
theorem rs_send (t f : ℕ) (ht : t < 4) (hf : f < 2) (c n : Dev nD) (hn : n = pr t f c) {h : ℕ} (hh : rows t = h)
    {off offD : Fin 3 → ℕ} (ho : off = ![f, base t f (pr t f c), 0]) (hoD : offD = ![f, lnd t, 0])
    {qS qR : DmaSem sig} (hqS : qS = sq 0 t f) (hqR : qR = sq 1 t f)
    {inb : ∀ a, off a + (⟨3, ![1, h, 256]⟩ : Shape).size a ≤ S2x512x256.size a}
    {inbD : ∀ a, offD a + (⟨3, ![1, h, 256]⟩ : Shape).size a ≤ S2x480x256.size a} {hr hrD}
    {sz sz' : (⟨3, ![1, h, 256]⟩ : Shape).Squeezes (⟨2, ![h, 256]⟩ : Shape)}
    {hsc : ((bfM.slice (bfR offD h inbD) hrD).squeeze (⟨2, ![h, 256]⟩ : Shape) sz' : Memref sig (Dev.tc n : Thread nD τ).2.kind .vmem (⟨2, ![h, 256]⟩ : Shape) .bf16).view.ref.isScScratch = false}
    {hsrc : ((accM.slice (accR off h inb) hr).squeeze (⟨2, ![h, 256]⟩ : Shape) sz).view.WordExact}
    {hdst : ((bfM.slice (bfR offD h inbD) hrD).squeeze (⟨2, ![h, 256]⟩ : Shape) sz').view.WordExact}
    {hsem : DmaTarget.Typed .vmem (.dma qR) (.remote (Dev.tc n : Thread nD τ) ((bfM.slice (bfR offD h inbD) hrD).squeeze (⟨2, ![h, 256]⟩ : Shape) sz') (.dma qS) hsc)}
    {α : Type} {Q : α → sProp 𝕄} {k : PUnit → Prog (TpuEff nD τ sig (Elt F) Λ₀ .tc) α} :
    iprop(Ctx m K ∗ accP c (aP t f c) (St m t c) ∗ bfE (F := F) (pr t f c) (bR t f) ∗ Ow c (4 + 2 * t + f)
        ∗ dutyTok ER (dcell 0 t f c) 0 0 ∗ dutyTok ER (dcell 1 t f (pr t f c)) 0 0)
      ⊢ iprop(((accP c (aK t f c) (St m t c) ∗ cred (tallyAt (dcell 0 t f c) () (NR t)) ∗ Ow c (4 + 2 * t + f + 1))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((accM.slice (accR off h inb) hr).squeeze (⟨2, ![h, 256]⟩ : Shape) sz)
                (.remote (Dev.tc n : Thread nD τ) ((bfM.slice (bfR offD h inbD) hrD).squeeze (⟨2, ![h, 256]⟩ : Shape) sz') (.dma qS) hsc) (.dma qR) hsrc hdst hsem) k) Q) := by
  subst hn hqS hqR
  have hset : ((accM.slice (accR off h inb) hr).squeeze (⟨2, ![h, 256]⟩ : Shape) sz).view.set = aK t f (pr t f c) :=
    (View.set_reshape _ _).trans ((View.set_slice_whole _ _).trans (acc_set hh ho))
  have hsetD : ((bfM.slice (bfR offD h inbD) hrD).squeeze (⟨2, ![h, 256]⟩ : Shape) sz').view.set = bR t f :=
    (View.set_reshape _ _).trans ((View.set_slice_whole _ _).trans (bf_set hh hoD))
  have hN : NR t = RefSig.tileCredit (⟨2, ![h, 256]⟩ : Shape) .bf16 := by rw [← hh]; exact NR_eq _
  unfold Ow
  iintro ⟨#HC, HA, HB, ⟨%W, HO⟩, HtS, HtR⟩ Hk
  rw [aP_eq t f ht hf c]
  ihave HA := (accP_union (St m t c) (aK_disj t f ht hf c)).1 $$ HA
  icases HA with ⟨HA, HS⟩
  unfold bfE
  icases HB with ⟨%fd, HB⟩
  iapply (Rounds.wp_send_landing_pointsTo 𝒱₀ ER (Rd m) (c : Thread nD τ) none (κ₁ := K (c, kx 0 t f)) (κ₂ := K (pr t f c, kx 1 t f))
      (r₁ := 0) (r₂ := 0) (d₁ := 0) (d₂ := 0) (c' := (pr t f c : Thread nD τ)) (src := (accM.slice (accR off h inb) hr).squeeze (⟨2, ![h, 256]⟩ : Shape) sz) (dst := (bfM.slice (bfR offD h inbD) hrD).squeeze (⟨2, ![h, 256]⟩ : Shape) sz') (sS := .dma (sq 0 t f)) (sem := .dma (sq 1 t f)) (O₀ := Od c (4 + 2 * t + f)) (fs := St m t c) (fd := fd)
      (by rw [duties_dma m c (by decide) ht hf]; exact Finset.mem_singleton_self _)
      (by rw [duties_dma m _ (by decide) ht hf]; exact Finset.mem_singleton_self _)
      () () (NR t) hN.symm ((amount_dma m c (by decide) ht hf 0).trans rfl) ((amount_dma m _ (by decide) ht hf 0).trans rfl)
      (Od c (4 + 2 * t + f + 1)) (by rw [Od_step c (by omega : 4 + 2 * t + f < 20), pay_rs c ht hf]) (W := W)
      (by rw [payload_dma m c (by decide) ht hf]; unfold dmaPay; rw [if_neg (by decide), if_neg (by decide), if_neg (by decide)])
      (by
        rw [payload_dma m _ (by decide) ht hf]; unfold dmaPay; rw [if_pos rfl, pr_pr, hset, hsetD]
        refine sep_mono_left (Entails.of_eq ?_)
        exact bfP_congr (landed m ht hf hh (pr t f c) rfl ho hoD fd))) $$ [HS HB HO HtS HtR]
  · isplitr; · iapply (ctx_dma m K c (by decide) ht hf); iexact HC
    isplitr; · iapply (ctx_dma m K (pr t f c) (by decide) ht hf); iexact HC
    isplitl [HS]; · rw [hset]; unfold accP; iexact HS
    isplitl [HB]; · rw [hsetD]; unfold bfP; iexact HB
    isplitl [HO]; · iexact HO
    isplitl [HtS]; · iexact HtS
    isplitr; · iapply (ctx_dma_reached m K c (by decide) ht hf); iexact HC
    isplitl [HtR]; · iexact HtR
    iapply (ctx_dma_reached m K (pr t f c) (by decide) ht hf); iexact HC
  iintro ⟨Hcr, HO⟩
  iapply Hk
  isplitl [HA]; · iexact HA
  isplitl [Hcr]; · iexact Hcr
  iexists W; iexact HO

/-- A transfer of the gather: the finished rows, into the partner's accumulator at the same place. -/
theorem ag_send (t u f : ℕ) (hu : u < 4) (htu : t = 3 - u) (hf : f < 2) (c n : Dev nD) (hn : n = pr t f c) {h : ℕ} (hh : rows t = h)
    {off : Fin 3 → ℕ} (ho : off = ![f, base t f c, 0])
    {qS qR : DmaSem sig} (hqS : qS = sq 2 u f) (hqR : qR = sq 3 u f)
    {inb : ∀ a, off a + (⟨3, ![1, h, 256]⟩ : Shape).size a ≤ S2x512x256.size a} {hr}
    {sz : (⟨3, ![1, h, 256]⟩ : Shape).Squeezes (⟨2, ![h, 256]⟩ : Shape)}
    {hsc : ((accM.slice (accR off h inb) hr).squeeze (⟨2, ![h, 256]⟩ : Shape) sz : Memref sig (Dev.tc n : Thread nD τ).2.kind .vmem (⟨2, ![h, 256]⟩ : Shape) .bf16).view.ref.isScScratch = false}
    {hsrc : ((accM.slice (accR off h inb) hr).squeeze (⟨2, ![h, 256]⟩ : Shape) sz).view.WordExact}
    {hdst : ((accM.slice (accR off h inb) hr).squeeze (⟨2, ![h, 256]⟩ : Shape) sz).view.WordExact}
    {hsem : DmaTarget.Typed .vmem (.dma qR) (.remote (Dev.tc n : Thread nD τ) ((accM.slice (accR off h inb) hr).squeeze (⟨2, ![h, 256]⟩ : Shape) sz) (.dma qS) hsc)}
    {α : Type} {Q : α → sProp 𝕄} {k : PUnit → Prog (TpuEff nD τ sig (Elt F) Λ₀ .tc) α} :
    iprop(Ctx m K ∗ accP c (aK t f c) (fin m) ∗ accP (pr t f c) (aK t f c) (St m t (pr t f c)) ∗ Ow c (12 + 2 * u + f)
        ∗ dutyTok ER (dcell 2 u f c) 0 0 ∗ dutyTok ER (dcell 3 u f (pr t f c)) 0 0)
      ⊢ iprop(((cred (tallyAt (dcell 2 u f c) () (NR t)) ∗ Ow c (12 + 2 * u + f + 1))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((accM.slice (accR off h inb) hr).squeeze (⟨2, ![h, 256]⟩ : Shape) sz)
                (.remote (Dev.tc n : Thread nD τ) ((accM.slice (accR off h inb) hr).squeeze (⟨2, ![h, 256]⟩ : Shape) sz) (.dma qS) hsc) (.dma qR) hsrc hdst hsem) k) Q) := by
  subst htu hn hqS hqR
  have hset : ((accM.slice (accR off h inb) hr).squeeze (⟨2, ![h, 256]⟩ : Shape) sz).view.set = aK (3 - u) f c :=
    (View.set_reshape _ _).trans ((View.set_slice_whole _ _).trans (acc_set hh ho))
  have hN : NR (3 - u) = RefSig.tileCredit (⟨2, ![h, 256]⟩ : Shape) .bf16 := by rw [← hh]; exact NR_eq _
  unfold Ow
  iintro ⟨#HC, HA, HB, ⟨%W, HO⟩, HtS, HtR⟩ Hk
  iapply (Rounds.wp_send_pointsTo 𝒱₀ ER (Rd m) (c : Thread nD τ) none (κ₁ := K (c, kx 2 u f)) (κ₂ := K (pr (3 - u) f c, kx 3 u f))
      (r₁ := 0) (r₂ := 0) (d₁ := 0) (d₂ := 0) (c' := (pr (3 - u) f c : Thread nD τ)) (src := (accM.slice (accR off h inb) hr).squeeze (⟨2, ![h, 256]⟩ : Shape) sz) (dst := (accM.slice (accR off h inb) hr).squeeze (⟨2, ![h, 256]⟩ : Shape) sz) (sS := .dma (sq 2 u f)) (sem := .dma (sq 3 u f)) (O₀ := Od c (12 + 2 * u + f)) (fs := fin m) (fd := St m (3 - u) (pr (3 - u) f c))
      (by rw [duties_dma m c (by decide) hu hf]; exact Finset.mem_singleton_self _)
      (by rw [duties_dma m _ (by decide) hu hf]; exact Finset.mem_singleton_self _)
      () () (NR (3 - u)) hN.symm ((amount_dma m c (by decide) hu hf 0).trans rfl) ((amount_dma m _ (by decide) hu hf 0).trans rfl)
      (Od c (12 + 2 * u + f + 1)) (by rw [Od_step c (by omega : 12 + 2 * u + f < 20), pay_ag c hu hf]) (W := W)
      (by rw [payload_dma m c (by decide) hu hf]; unfold dmaPay; rw [if_neg (by decide), if_pos rfl, hset]; exact BI.Entails.refl _)
      (by
        rw [payload_dma m _ (by decide) hu hf]; unfold dmaPay; rw [if_neg (by decide), if_neg (by decide), if_pos rfl, pr_pr, hset]
        exact Entails.of_eq (accP_congr (landedA hh ho _ _)))) $$ [HA HB HO HtS HtR]
  · isplitr; · iapply (ctx_dma m K c (by decide) hu hf); iexact HC
    isplitr; · iapply (ctx_dma m K (pr (3 - u) f c) (by decide) hu hf); iexact HC
    isplitl [HA]; · rw [hset]; unfold accP; iexact HA
    isplitl [HB]; · rw [hset]; unfold accP; iexact HB
    isplitl [HO]; · iexact HO
    isplitl [HtS]; · iexact HtS
    isplitr; · iapply (ctx_dma_reached m K c (by decide) hu hf); iexact HC
    isplitl [HtR]; · iexact HtR
    iapply (ctx_dma_reached m K (pr (3 - u) f c) (by decide) hu hf); iexact HC
  iintro ⟨Hcr, HO⟩
  iapply Hk
  isplitl [Hcr]; · iexact Hcr
  iexists W; iexact HO

end Ops

end Cert.KernelIdeal.Cube

end
-- ==== Proof.Steps.lean ====
/- The same rules in the form the kernel's steps use them: each wait with what it brings, the loads and the store of an
   accumulation, and the values an accumulation writes. -/
module

public import proofs.«01_k».proof.Proof.Rules

@[expose] public section

noncomputable section

namespace Cert.KernelIdeal.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 33 → ℕ)

/-! ## Waits -/

section Waits

theorem wait_rs_send (t f n : ℕ) (ht : t < 4) (hf : f < 2) (hn : 4 + 2 * (t + 1) ≤ n) (c : Dev nD) {h : ℕ} (hh : rows t = h)
    {q : DmaSem sig} (hq : q = sq 0 t f) {src dst : Memref sig .tc .vmem (⟨2, ![h, 256]⟩ : Shape) .bf16} {hsrc : src.view.WordExact} {hdst : dst.view.WordExact}
    {α : Type} {Q : α → sProp 𝕄} {k : PUnit → Prog (TpuEff nD τ sig (Elt F) Λ₀ .tc) α} :
    iprop(Ctx m K ∗ cred (tallyAt (dcell 0 t f c) () (NR t)) ∗ Ow c n ∗ atPos ER (dcell 0 t f c) 0 ∅ 0)
      ⊢ iprop(((Ow c n ∗ semVal (dcell 0 t f c) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  refine (dma_wait m K 0 t f n (by decide) ht hf hn (fun e => absurd e (by decide)) c (h := h) hh hq (src := src) (dst := dst) (hsrc := hsrc) (hdst := hdst) (Q := Q) (k := k)).trans ?_
  unfold dmaPay
  rw [if_neg (by decide), if_neg (by decide), if_neg (by decide)]
  iintro H Hk
  iapply H
  iintro ⟨HO, Hz, -⟩
  iapply Hk
  isplitl [HO]; · iexact HO
  iexact Hz

theorem wait_rs_recv (t f n : ℕ) (ht : t < 4) (hf : f < 2) (hn : 4 + 2 * (t + 1) ≤ n) (c : Dev nD) {h : ℕ} (hh : rows t = h)
    {q : DmaSem sig} (hq : q = sq 1 t f) {src dst : Memref sig .tc .vmem (⟨2, ![h, 256]⟩ : Shape) .bf16} {hsrc : src.view.WordExact} {hdst : dst.view.WordExact}
    {α : Type} {Q : α → sProp 𝕄} {k : PUnit → Prog (TpuEff nD τ sig (Elt F) Λ₀ .tc) α} :
    iprop(Ctx m K ∗ cred (tallyAt (dcell 1 t f c) () (NR t)) ∗ Ow c n ∗ atPos ER (dcell 1 t f c) 0 ∅ 0)
      ⊢ iprop(((Ow c n ∗ semVal (dcell 1 t f c) 0 ∗ bfP c (bR t f) (bfC m t c) ∗ accP (pr t f c) (aK t f c) (St m t (pr t f c)))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  refine (dma_wait m K 1 t f n (by decide) ht hf hn (fun e => absurd e (by decide)) c (h := h) hh hq (src := src) (dst := dst) (hsrc := hsrc) (hdst := hdst) (Q := Q) (k := k)).trans ?_
  unfold dmaPay
  rw [if_pos rfl]

theorem wait_ag_send (t u f n : ℕ) (hu : u < 4) (htu : t = 3 - u) (hf : f < 2) (hn : 4 + 2 * (u + 1) ≤ n) (c : Dev nD) {h : ℕ} (hh : rows t = h)
    {q : DmaSem sig} (hq : q = sq 2 u f) {src dst : Memref sig .tc .vmem (⟨2, ![h, 256]⟩ : Shape) .bf16} {hsrc : src.view.WordExact} {hdst : dst.view.WordExact}
    {α : Type} {Q : α → sProp 𝕄} {k : PUnit → Prog (TpuEff nD τ sig (Elt F) Λ₀ .tc) α} :
    iprop(Ctx m K ∗ cred (tallyAt (dcell 2 u f c) () (NR t)) ∗ Ow c n ∗ atPos ER (dcell 2 u f c) 0 ∅ 0)
      ⊢ iprop(((Ow c n ∗ semVal (dcell 2 u f c) 0 ∗ accP c (aK t f c) (fin m))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst htu
  refine (dma_wait m K 2 u f n (by decide) hu hf hn (fun e => absurd e (by decide)) c (h := h) hh hq (src := src) (dst := dst) (hsrc := hsrc) (hdst := hdst) (Q := Q) (k := k)).trans ?_
  unfold dmaPay
  rw [if_neg (by decide), if_pos rfl]

/-- After the receive of a gather's step the device holds the rows it held before the reduction's step of the same axis. -/
theorem wait_ag_recv (t u f n : ℕ) (hu : u < 4) (htu : t = 3 - u) (hf : f < 2) (hn : 12 + 2 * (u + 1) ≤ n) (c : Dev nD) {h : ℕ} (hh : rows t = h)
    {q : DmaSem sig} (hq : q = sq 3 u f) {src dst : Memref sig .tc .vmem (⟨2, ![h, 256]⟩ : Shape) .bf16} {hsrc : src.view.WordExact} {hdst : dst.view.WordExact}
    {α : Type} {Q : α → sProp 𝕄} {k : PUnit → Prog (TpuEff nD τ sig (Elt F) Λ₀ .tc) α} :
    iprop(Ctx m K ∗ cred (tallyAt (dcell 3 u f c) () (NR t)) ∗ Ow c n ∗ atPos ER (dcell 3 u f c) 0 ∅ 0 ∗ accP c (aK t f c) (fin m))
      ⊢ iprop(((Ow c n ∗ semVal (dcell 3 u f c) 0 ∗ accP c (aP t f c) (fin m))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst htu
  iintro ⟨#HC, Hc, HO, Hat, HA⟩ Hk
  iapply (dma_wait m K 3 u f n (by decide) hu hf (by omega) (fun _ => hn) c (h := h) hh hq (src := src) (dst := dst) (hsrc := hsrc) (hdst := hdst) (Q := Q) (k := k)) $$ [Hc HO Hat]
  · isplitr; · iexact HC
    isplitl [Hc]; · iexact Hc
    isplitl [HO]; · iexact HO
    iexact Hat
  unfold dmaPay
  rw [if_neg (by decide), if_neg (by decide), if_pos rfl]
  iintro ⟨HO, Hz, HB⟩
  iapply Hk
  isplitl [HO]; · iexact HO
  isplitl [Hz]; · iexact Hz
  rw [aP_eq (3 - u) f (by omega) hf c]
  iapply (accP_union (fin m) (aK_disj (3 - u) f (by omega) hf c)).2
  isplitl [HA]; · iexact HA
  iexact HB

end Waits

/-! ## Loads and stores -/

section Access

theorem acc_load (c : Dev nD) {S : Finset S2x512x256.Idx} {X : S2x512x256.Idx → F .bf16} {r : Rect S2x512x256} (hS : r.set ⊆ S)
    {hl : accM.view.LoadsAt r.toLoadRect}
    {α : Type} {Q : α → sProp 𝕄} {k : (r.toLoadRect.shape.Idx → Elt F .bf16) → Prog (TpuEff nD τ sig (Elt F) Λ₀ .tc) α} :
    accP c S X
      ⊢ iprop((accP c S X -∗ wp frame (wpE (defs₀ (F := F)) 𝒱₀ (c : Thread nD τ) none) Set.univ (k (accM.view.readAt (Elt F) r.toLoadRect X)) Q)
          -∗ wp frame (wpE (defs₀ (F := F)) 𝒱₀ (c : Thread nD τ) none) Set.univ (.op (.load accM r.toLoadRect hl) k) Q) :=
  wp_load_rect 𝒱₀ (c : Thread nD τ) none Set.univ (m := accM) (r := r) (hl := hl) (Q := Q) (k := k) (by
    have e : (accM.access r : View sig .tc _ _ _).set = r.set := View.set_slice_whole _ _
    exact e ▸ hS)

theorem bf_load (c : Dev nD) {S : Finset S2x480x256.Idx} {X : S2x480x256.Idx → F .bf16} {r : Rect S2x480x256} (hS : r.set ⊆ S)
    {hl : bfM.view.LoadsAt r.toLoadRect}
    {α : Type} {Q : α → sProp 𝕄} {k : (r.toLoadRect.shape.Idx → Elt F .bf16) → Prog (TpuEff nD τ sig (Elt F) Λ₀ .tc) α} :
    bfP c S X
      ⊢ iprop((bfP c S X -∗ wp frame (wpE (defs₀ (F := F)) 𝒱₀ (c : Thread nD τ) none) Set.univ (k (bfM.view.readAt (Elt F) r.toLoadRect X)) Q)
          -∗ wp frame (wpE (defs₀ (F := F)) 𝒱₀ (c : Thread nD τ) none) Set.univ (.op (.load bfM r.toLoadRect hl) k) Q) :=
  wp_load_rect 𝒱₀ (c : Thread nD τ) none Set.univ (m := bfM) (r := r) (hl := hl) (Q := Q) (k := k) (by
    have e : (bfM.access r : View sig .tc _ _ _).set = r.set := View.set_slice_whole _ _
    exact e ▸ hS)

theorem acc_store (c : Dev nD) {S : Finset S2x512x256.Idx} {X : S2x512x256.Idx → F .bf16} {r : Rect S2x512x256} (hS : r.set ⊆ S)
    {w : r.shape.Idx → Elt F .bf16} {hx : (accM.access r : View sig .tc _ _ _).Stores Finset.univ} {hm}
    {α : Type} {Q : α → sProp 𝕄} {k : PUnit → Prog (TpuEff nD τ sig (Elt F) Λ₀ .tc) α} :
    accP c S X
      ⊢ iprop((accP c S ((accM.access r : View sig .tc _ _ _).write (Elt F) X w Finset.univ) -∗ wp frame (wpE (defs₀ (F := F)) 𝒱₀ (c : Thread nD τ) none) Set.univ (k ⟨⟩) Q)
          -∗ wp frame (wpE (defs₀ (F := F)) 𝒱₀ (c : Thread nD τ) none) Set.univ (.op (.store accM r w Finset.univ hx hm) k) Q) :=
  wp_store 𝒱₀ (c : Thread nD τ) none Set.univ (m := accM) (r := r) (w := w) (hx := hx) (hm := hm) (Q := Q) (k := k) (by
    have e : (accM.access r : View sig .tc _ _ _).set = r.set := View.set_slice_whole _ _
    exact Finset.Subset.trans (View.setOn_subset_set _ _) (e ▸ hS))

/-- The store of an accumulation: the rows a device kept after `t` steps become those after one more. -/
theorem acc_step (t f : ℕ) (hf : f < 2) (c : Dev nD) {h : ℕ} (hh : rows t = h) {off off' : Fin 3 → ℕ} (ho : off = ![f, base t f c, 0]) (ho' : off' = ![f, lnd t, 0])
    {inb : ∀ a, off a + (⟨3, ![1, h, 256]⟩ : Shape).size a ≤ S2x512x256.size a}
    {inbB : ∀ a, off' a + (⟨3, ![1, h, 256]⟩ : Shape).size a ≤ S2x480x256.size a}
    {w : (⟨3, ![1, h, 256]⟩ : Shape).Idx → F .bf16}
    (hw : ∀ z, w z = addE (accM.view.readAt (Elt F) (accR off h inb).toLoadRect (St m t c) z) (bfM.view.readAt (Elt F) (bfR off' h inbB).toLoadRect (bfC m t c) z))
    {hx : (accM.access (accR off h inb) : View sig .tc _ _ _).Stores Finset.univ} {hm}
    {α : Type} {Q : α → sProp 𝕄} {k : PUnit → Prog (TpuEff nD τ sig (Elt F) Λ₀ .tc) α} :
    accP c (aK t f c) (St m t c)
      ⊢ iprop((accP c (aP (t + 1) f c) (St m (t + 1) c) -∗ wp frame (wpE (defs₀ (F := F)) 𝒱₀ (c : Thread nD τ) none) Set.univ (k ⟨⟩) Q)
          -∗ wp frame (wpE (defs₀ (F := F)) 𝒱₀ (c : Thread nD τ) none) Set.univ (.op (.store accM (accR off h inb) w Finset.univ hx hm) k) Q) := by
  refine (acc_store c (r := accR off h inb) (w := w) (hx := hx) (hm := hm) (Q := Q) (k := k) (acc_set hh ho (inb := inb)).subset).trans ?_
  rw [accP_congr (acc_write hh ho (inb := inb) (St m t c) (St m (t + 1) c) w (fun z => by
    rw [hw z, acc_read _ ho, bf_read m ho', St_succ m hf]))]
  exact BI.Entails.refl _

end Access

/-! ## What an accumulation writes -/

theorem add_apply {h : ℕ} (v v' : (⟨3, ![1, h, 256]⟩ : Shape).Idx → F .bf16)
    (e1 : (⟨3, ![1, h, 256]⟩ : Shape).ShapeCasts ⟨2, ![h, 256]⟩) (e2 : (⟨2, ![h, 256]⟩ : Shape).ShapeCasts ⟨3, ![1, h, 256]⟩) (z) :
    (shapeCast (⟨3, ![1, h, 256]⟩ : Shape) (truncf (F := F) .bf16 (addf (F := F) (extf (F := F) .f32 (shapeCast (⟨2, ![h, 256]⟩ : Shape) v e1) bitsLt_bf16_f32)
      (extf .f32 (shapeCast (⟨2, ![h, 256]⟩ : Shape) v' e1) bitsLt_bf16_f32)) bitsLt_bf16_f32) e2) z = addE (v z) (v' z) := by
  show addE (shapeCast (⟨3, ![1, h, 256]⟩ : Shape) (shapeCast (⟨2, ![h, 256]⟩ : Shape) v e1) e2 z) (shapeCast (⟨3, ![1, h, 256]⟩ : Shape) (shapeCast (⟨2, ![h, 256]⟩ : Shape) v' e1) e2 z) = _
  rw [shapeCast_shapeCast, shapeCast_shapeCast]

/-- After the last accumulation. -/
theorem acc_fin (f : ℕ) (hf : f < 2) (c : Dev nD) : accP c (aP 4 f c) (St m 4 c) = accP c (aK 3 f c) (fin m) :=
  accP_congr (fin_eq m f hf c)

end Cert.KernelIdeal.Cube

end
-- ==== Proof.Blocks.lean ====
/- The partial product laid out block by block in the accumulator, and the finished sum copied block by block to the output. -/
module

public import proofs.«01_k».proof.Proof.Steps

@[expose] public section

noncomputable section

namespace Cert.KernelIdeal.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 33 → ℕ)

abbrev WPc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The inputs -/

/-- The staged inputs and the output's staging buffer. -/
def xP (c : Dev nD) : sProp 𝕄 := ((c : Thread nD τ).loc cc0_stg0_0) ↦{fullShare} (xs m c)
def iP (c : Dev nD) : sProp 𝕄 := ((c : Thread nD τ).loc cc0_stg1_0) ↦{fullShare} (rs m c)
def wP (c : Dev nD) : sProp 𝕄 := ((c : Thread nD τ).loc cc0_stg2_0) ↦{fullShare} (ws m c)
def oP (c : Dev nD) (g : S512x512.Idx → F .f32) : sProp 𝕄 := ((c : Thread nD τ).loc cc0_stg3_0) ↦{fullShare} g

section Inputs
variable (c : Dev nD)

theorem x_load {α : Type} {Q : α → sProp 𝕄} {off : Fin 2 → ℕ} (ho : off = fun _ => 0) {inb : ∀ a, off a + S512x256.size a ≤ S512x256.size a} {hl}
    {k : ((Rect.unit (s := S512x256) off S512x256.size inb).toLoadRect.shape.Idx → Elt F .f32) → Prog (TpuEff nD τ sig (Elt F) Λ₀ .tc) α} :
    xP m c ⊢ iprop((xP m c -∗ WPc c (k (xs m c)) Q) -∗ WPc c (.op (.load xM (Rect.unit (s := S512x256) off S512x256.size inb).toLoadRect hl) k) Q) := by
  have e := Memref.readAt_unit_zero (Elt F) cc0_stg0_0 (off := off) ho inb (xs m c)
  have h : xP m c ⊢ iprop((xP m c -∗ WPc c (k (xM.view.readAt (Elt F) (Rect.unit (s := S512x256) off S512x256.size inb).toLoadRect (xs m c))) Q)
      -∗ WPc c (.op (.load xM (Rect.unit (s := S512x256) off S512x256.size inb).toLoadRect hl) k) Q) :=
    wp_load 𝒱₀ (c : Thread nD τ) none Set.univ (defs := defs₀ (F := F)) (m := xM) (hl := hl) (Q := Q) (k := k) (q := fullShare) (f := xs m c) (Finset.subset_univ _)
  have e' : k (xM.view.readAt (Elt F) (Rect.unit (s := S512x256) off S512x256.size inb).toLoadRect (xs m c)) = k (xs m c) := congrArg k e
  rw [e'] at h
  exact h

theorem i_load {α : Type} {Q : α → sProp 𝕄} {off : Fin 2 → ℕ} (ho : off = fun _ => 0) {inb : ∀ a, off a + S512x1.size a ≤ S512x1.size a} {hl}
    {k : ((Rect.unit (s := S512x1) off S512x1.size inb).toLoadRect.shape.Idx → Elt F .i32) → Prog (TpuEff nD τ sig (Elt F) Λ₀ .tc) α} :
    iP m c ⊢ iprop((iP m c -∗ WPc c (k (rs m c)) Q) -∗ WPc c (.op (.load iM (Rect.unit (s := S512x1) off S512x1.size inb).toLoadRect hl) k) Q) := by
  have e := Memref.readAt_unit_zero (Elt F) cc0_stg1_0 (off := off) ho inb (rs m c)
  have h : iP m c ⊢ iprop((iP m c -∗ WPc c (k (iM.view.readAt (Elt F) (Rect.unit (s := S512x1) off S512x1.size inb).toLoadRect (rs m c))) Q)
      -∗ WPc c (.op (.load iM (Rect.unit (s := S512x1) off S512x1.size inb).toLoadRect hl) k) Q) :=
    wp_load 𝒱₀ (c : Thread nD τ) none Set.univ (defs := defs₀ (F := F)) (m := iM) (hl := hl) (Q := Q) (k := k) (q := fullShare) (f := rs m c) (Finset.subset_univ _)
  have e' : k (iM.view.readAt (Elt F) (Rect.unit (s := S512x1) off S512x1.size inb).toLoadRect (rs m c)) = k (rs m c) := congrArg k e
  rw [e'] at h
  exact h

theorem w0_load {α : Type} {Q : α → sProp 𝕄} {hl} {k : (wR0.toLoadRect.shape.Idx → Elt F .f32) → Prog (TpuEff nD τ sig (Elt F) Λ₀ .tc) α} :
    wP m c ⊢ iprop((wP m c -∗ WPc c (k (w0 m c)) Q) -∗ WPc c (.op (.load wM wR0.toLoadRect hl) k) Q) :=
  wp_load 𝒱₀ (c : Thread nD τ) none Set.univ (defs := defs₀ (F := F)) (m := wM) (hl := hl) (Q := Q) (k := k) (q := fullShare) (f := ws m c) (Finset.subset_univ _)

theorem w1_load {α : Type} {Q : α → sProp 𝕄} {hl} {k : (wR1.toLoadRect.shape.Idx → Elt F .f32) → Prog (TpuEff nD τ sig (Elt F) Λ₀ .tc) α} :
    wP m c ⊢ iprop((wP m c -∗ WPc c (k (w1 m c)) Q) -∗ WPc c (.op (.load wM wR1.toLoadRect hl) k) Q) :=
  wp_load 𝒱₀ (c : Thread nD τ) none Set.univ (defs := defs₀ (F := F)) (m := wM) (hl := hl) (Q := Q) (k := k) (q := fullShare) (f := ws m c) (Finset.subset_univ _)

end Inputs

/-! ## The partial product laid out in the accumulator -/

/-- After `n` blocks. -/
def fillA (c : Dev nD) (n : ℕ) : sProp 𝕄 :=
  iprop(∃ g, ⌜∀ i : S2x512x256.Idx, 16 * (i 0).val + ivirt (i 0).val ((i 1).val / 32) < n → g i = St m 0 c i⌝ ∗ accP c Finset.univ g)

theorem fill_start (c : Dev nD) (g : S2x512x256.Idx → F .bf16) : accP c Finset.univ g ⊢ fillA m c 0 := by
  unfold fillA
  iintro H
  iexists g
  isplitr
  · ipureintro
    exact fun i hi => absurd hi (Nat.not_lt_zero _)
  iexact H

theorem fill_end (c : Dev nD) : fillA m c 32 ⊢ accP c Finset.univ (St m 0 c) := by
  unfold fillA
  iintro ⟨%g, %hg, H⟩
  ihave H := (Entails.of_eq (accP_congr (f := g) (g := St m 0 c) (fun i _ => hg i (by
    have l0 : (i 0).val < 2 := (i 0).isLt
    have l1 : (i 1).val < 512 := (i 1).isLt
    have := ivirt_lt (i 0).val l0 ((i 1).val / 32) (by omega)
    omega)))) $$ H
  iexact H

theorem fill_load (c : Dev nD) {n : ℕ} {r : Rect S2x512x256} {hl : accM.view.LoadsAt r.toLoadRect}
    {α : Type} {Q : α → sProp 𝕄} {k : (r.toLoadRect.shape.Idx → Elt F .bf16) → Prog (TpuEff nD τ sig (Elt F) Λ₀ .tc) α} :
    fillA m c n ⊢ iprop((∀ v, fillA m c n -∗ WPc c (k v) Q) -∗ WPc c (.op (.load accM r.toLoadRect hl) k) Q) := by
  unfold fillA
  iintro ⟨%g, %hg, H⟩ Hk
  iapply (acc_load c (r := r) (hl := hl) (Q := Q) (k := k) (Finset.subset_univ _)) $$ H
  iintro H
  iapply Hk
  iexists g
  isplitr
  · ipureintro; exact hg
  iexact H

theorem fill_mem {f ch : ℕ} {off : Fin 3 → ℕ} (ho : off = ![f, 32 * virt f ch, 0])
    {inb : ∀ a, off a + (⟨3, ![1, 32, 256]⟩ : Shape).size a ≤ S2x512x256.size a} {i : S2x512x256.Idx} :
    i ∈ (Rect.unit (s := S2x512x256) off (⟨3, ![1, 32, 256]⟩ : Shape).size inb).set ↔ (i 0).val = f ∧ (i 1).val / 32 = virt f ch := by
  subst ho
  rw [Rect.mem_set_unit]
  constructor
  · intro hi
    have h0 : f ≤ (i 0).val ∧ (i 0).val < f + 1 := hi 0
    have h1 : 32 * virt f ch ≤ (i 1).val ∧ (i 1).val < 32 * virt f ch + 32 := hi 1
    omega
  · rintro ⟨h0, h1⟩ a
    have l2 : (i 2).val < 256 := (i 2).isLt
    match a with
    | ⟨0, _⟩ => show f ≤ (i 0).val ∧ (i 0).val < f + 1; omega
    | ⟨1, _⟩ => show 32 * virt f ch ≤ (i 1).val ∧ (i 1).val < 32 * virt f ch + 32; omega
    | ⟨2, _⟩ => show 0 ≤ (i 2).val ∧ (i 2).val < 0 + 256; omega

theorem fill_write {f ch : ℕ} (hf : f < 2) (hch : ch < 16) (c : Dev nD) {off : Fin 3 → ℕ} (ho : off = ![f, 32 * virt f ch, 0])
    {inb : ∀ a, off a + (⟨3, ![1, 32, 256]⟩ : Shape).size a ≤ S2x512x256.size a}
    {w : (⟨3, ![1, 32, 256]⟩ : Shape).Idx → F .bf16} (hw : ∀ z, w z = part m c (pI (32 * ch + (z 1).val) (256 * f + (z 2).val)))
    (g : S2x512x256.Idx → F .bf16) (hg : ∀ i : S2x512x256.Idx, 16 * (i 0).val + ivirt (i 0).val ((i 1).val / 32) < 16 * f + ch → g i = St m 0 c i) :
    ∀ i : S2x512x256.Idx, 16 * (i 0).val + ivirt (i 0).val ((i 1).val / 32) < 16 * f + ch + 1 →
      ((accM.access (accR off 32 inb) : View sig .tc _ _ _).write (Elt F) g w Finset.univ : (cc0_scratch0 : Ref sig .tc).ty.Contents (Elt F)) i = St m 0 c i := by
  intro i hi
  have l0 : (i 0).val < 2 := (i 0).isLt
  have l1 : (i 1).val < 512 := (i 1).isLt
  by_cases hm : (i 0).val = f ∧ (i 1).val / 32 = virt f ch
  · have hm' := (fill_mem ho (inb := inb)).mpr hm
    rw [← Rect.map_emb_univ, Finset.mem_map] at hm'
    obtain ⟨z, -, rfl⟩ := hm'
    refine (View.write_emb_of_mem (Val := Elt F) (v := (accM.access (accR off 32 inb) : View sig .tc _ _ _)) g w (Finset.mem_univ z)).trans ?_
    rw [acc_emb _ ho] at hm l0 l1 ⊢
    have hz : (z 1).val < 32 := (z 1).isLt
    have hz2 : (z 2).val < 256 := (z 2).isLt
    have hv := virt_lt f hf ch hch
    refine (hw z).trans ?_
    show _ = part m c (pI _ _)
    rw [aI_0 hf, aI_1 (by omega), aI_2 hz2, show (32 * virt f ch + (z 1).val) / 32 = virt f ch by omega, ivirt_virt f hf ch hch,
      show (32 * virt f ch + (z 1).val) % 32 = (z 1).val by omega]
  · refine (View.write_of_not_mem (Val := Elt F) (v := (accM.access (accR off 32 inb) : View sig .tc _ _ _)) g w Finset.univ (i := i) (by
      intro h
      have e : (accM.access (accR off 32 inb) : View sig .tc _ _ _).setOn Finset.univ = (accR off 32 inb).set := View.set_slice_whole _ _
      rw [e] at h
      exact hm ((fill_mem ho).mp h))).trans ?_
    refine hg i ?_
    by_contra hlt
    have hb := ivirt_lt (i 0).val l0 ((i 1).val / 32) (by omega)
    have h0 : (i 0).val = f := by omega
    have h1 : ivirt (i 0).val ((i 1).val / 32) = ch := by omega
    refine hm ⟨h0, ?_⟩
    have := virt_ivirt f hf ((i 1).val / 32) (by omega)
    rw [h0] at h1
    rw [h1] at this
    exact this.symm

theorem fill_store (f ch : ℕ) (hf : f < 2) (hch : ch < 16) (c : Dev nD) {n : ℕ} (hn : n = 16 * f + ch) {off : Fin 3 → ℕ} (ho : off = ![f, 32 * virt f ch, 0])
    {inb : ∀ a, off a + (⟨3, ![1, 32, 256]⟩ : Shape).size a ≤ S2x512x256.size a}
    {w : (⟨3, ![1, 32, 256]⟩ : Shape).Idx → F .bf16} (hw : ∀ z, w z = part m c (pI (32 * ch + (z 1).val) (256 * f + (z 2).val)))
    {hx : (accM.access (accR off 32 inb) : View sig .tc _ _ _).Stores Finset.univ} {hm}
    {α : Type} {Q : α → sProp 𝕄} {k : PUnit → Prog (TpuEff nD τ sig (Elt F) Λ₀ .tc) α} :
    fillA m c n ⊢ iprop((fillA m c (n + 1) -∗ WPc c (k ⟨⟩) Q) -∗ WPc c (.op (.store accM (accR off 32 inb) w Finset.univ hx hm) k) Q) := by
  subst hn
  unfold fillA
  iintro ⟨%g, %hg, H⟩ Hk
  iapply (acc_store c (r := accR off 32 inb) (w := w) (hx := hx) (hm := hm) (Q := Q) (k := k) (Finset.subset_univ _)) $$ H
  iintro H
  iapply Hk
  iexists ((accM.access (accR off 32 inb) : View sig .tc _ _ _).write (Elt F) g w Finset.univ)
  isplitr
  · ipureintro; exact fill_write m hf hch c ho hw g hg
  iexact H

/-- A block of the partial product. -/
theorem block_apply (v : FVec F S512x512 .bf16) (r q : ℕ) (hr : r + 32 ≤ 512) (hq : q + 256 ≤ 512) (h : S512x512.Slices ![r, q] S32x256)
    (e : S32x256.ShapeCasts (⟨3, ![1, 32, 256]⟩ : Shape)) (z : (⟨3, ![1, 32, 256]⟩ : Shape).Idx) :
    shapeCast (⟨3, ![1, 32, 256]⟩ : Shape) (extractStridedSlice S32x256 ![r, q] v h) e z = v (pI (r + (z 1).val) (q + (z 2).val)) := by
  have hz : (z 1).val < 32 := (z 1).isLt
  have hz2 : (z 2).val < 256 := (z 2).isLt
  refine (shapeCast_addUnit_apply ![32, 256] _ e z).trans ?_
  refine extractStridedSlice_apply ![r, q] v h _ _ fun a => ?_
  match a with
  | ⟨0, _⟩ => exact Nat.mod_eq_of_lt (by omega)
  | ⟨1, _⟩ => exact Nat.mod_eq_of_lt (by omega)

/-! ## The output -/

/-- After `n` blocks of the output. -/
def outA (c : Dev nD) (n : ℕ) : sProp 𝕄 :=
  iprop(∃ g, ⌜∀ j : S512x512.Idx, 16 * ((j 1).val / 256) + (j 0).val / 32 < n → g j = outC m j⌝ ∗ oP c g)

theorem out_start (c : Dev nD) (g : S512x512.Idx → F .f32) : oP c g ⊢ outA m c 0 := by
  unfold outA
  iintro H
  iexists g
  isplitr
  · ipureintro
    exact fun i hi => absurd hi (Nat.not_lt_zero _)
  iexact H

theorem out_end (c : Dev nD) : outA m c 32 ⊢ oP c (outC m) := by
  unfold outA
  iintro ⟨%g, %hg, H⟩
  have e : g = outC m := funext fun j => hg j (by
    have l0 : (j 0).val < 512 := (j 0).isLt
    have l1 : (j 1).val < 512 := (j 1).isLt
    omega)
  rw [e]
  iexact H

theorem out_load (c : Dev nD) {n : ℕ} {r : Rect S512x512} {hl : oM.view.LoadsAt r.toLoadRect}
    {α : Type} {Q : α → sProp 𝕄} {k : (r.toLoadRect.shape.Idx → Elt F .f32) → Prog (TpuEff nD τ sig (Elt F) Λ₀ .tc) α} :
    outA m c n ⊢ iprop((∀ v, outA m c n -∗ WPc c (k v) Q) -∗ WPc c (.op (.load oM r.toLoadRect hl) k) Q) := by
  unfold outA oP
  iintro ⟨%g, %hg, H⟩ Hk
  iapply (wp_load_rect 𝒱₀ (c : Thread nD τ) none Set.univ (m := oM) (r := r) (hl := hl) (Q := Q) (k := k) (Finset.subset_univ _)) $$ H
  iintro H
  iapply Hk
  iexists g
  isplitr
  · ipureintro; exact hg
  iexact H

abbrev outR (off : Fin 2 → ℕ) (inb : ∀ a, off a + S32x256.size a ≤ S512x512.size a) : Rect S512x512 := Rect.unit (s := S512x512) off S32x256.size inb

theorem out_emb {a b : ℕ} {off : Fin 2 → ℕ} (ho : off = ![a, b]) {inb : ∀ a, off a + S32x256.size a ≤ S512x512.size a} (z : S32x256.Idx) :
    ((outR off inb).emb z 0).val = a + (z 0).val ∧ ((outR off inb).emb z 1).val = b + (z 1).val := by
  subst ho
  exact ⟨ValueKit.rect_emb_unit_val (s := S512x512) ![a, b] S32x256.size inb z 0, ValueKit.rect_emb_unit_val (s := S512x512) ![a, b] S32x256.size inb z 1⟩

theorem out_mem {f ch : ℕ} {off : Fin 2 → ℕ} (ho : off = ![32 * ch, 256 * f]) {inb : ∀ a, off a + S32x256.size a ≤ S512x512.size a} {j : S512x512.Idx} :
    j ∈ (outR off inb).set ↔ (j 1).val / 256 = f ∧ (j 0).val / 32 = ch := by
  subst ho
  rw [Rect.mem_set_unit]
  constructor
  · intro hi
    have h0 : 32 * ch ≤ (j 0).val ∧ (j 0).val < 32 * ch + 32 := hi 0
    have h1 : 256 * f ≤ (j 1).val ∧ (j 1).val < 256 * f + 256 := hi 1
    omega
  · rintro ⟨h0, h1⟩ a
    match a with
    | ⟨0, _⟩ => show 32 * ch ≤ (j 0).val ∧ (j 0).val < 32 * ch + 32; omega
    | ⟨1, _⟩ => show 256 * f ≤ (j 1).val ∧ (j 1).val < 256 * f + 256; omega

theorem out_write {f ch : ℕ} {off : Fin 2 → ℕ} (ho : off = ![32 * ch, 256 * f]) {inb : ∀ a, off a + S32x256.size a ≤ S512x512.size a}
    {w : S32x256.Idx → F .f32} (hw : ∀ z, w z = FloatOps.extf .f32 (by decide) (fin m (aI f (32 * virt f ch + (z 0).val) (z 1).val)))
    (g : S512x512.Idx → F .f32) (hg : ∀ j : S512x512.Idx, 16 * ((j 1).val / 256) + (j 0).val / 32 < 16 * f + ch → g j = outC m j) (hch : ch < 16) :
    ∀ j : S512x512.Idx, 16 * ((j 1).val / 256) + (j 0).val / 32 < 16 * f + ch + 1 →
      ((oM.access (outR off inb) : View sig .tc _ _ _).write (Elt F) g w Finset.univ : (cc0_stg3_0 : Ref sig .tc).ty.Contents (Elt F)) j = outC m j := by
  intro j hj
  have l0 : (j 0).val < 512 := (j 0).isLt
  have l1 : (j 1).val < 512 := (j 1).isLt
  by_cases hm : (j 1).val / 256 = f ∧ (j 0).val / 32 = ch
  · have hm' := (out_mem ho (inb := inb)).mpr hm
    rw [← Rect.map_emb_univ, Finset.mem_map] at hm'
    obtain ⟨z, -, rfl⟩ := hm'
    refine (View.write_emb_of_mem (Val := Elt F) (v := (oM.access (outR off inb) : View sig .tc _ _ _)) g w (Finset.mem_univ z)).trans ?_
    obtain ⟨e0, e1⟩ := out_emb ho (inb := inb) z
    have hz : (z 0).val < 32 := (z 0).isLt
    have hz1 : (z 1).val < 256 := (z 1).isLt
    refine (hw z).trans ?_
    unfold outC
    rw [e0, e1, show (256 * f + (z 1).val) / 256 = f by omega, show (32 * ch + (z 0).val) / 32 = ch by omega,
      show (32 * ch + (z 0).val) % 32 = (z 0).val by omega, show (256 * f + (z 1).val) % 256 = (z 1).val by omega]
  · refine (View.write_of_not_mem (Val := Elt F) (v := (oM.access (outR off inb) : View sig .tc _ _ _)) g w Finset.univ (i := j) (by
      intro h
      have e : (oM.access (outR off inb) : View sig .tc _ _ _).setOn Finset.univ = (outR off inb).set := View.set_slice_whole _ _
      rw [e] at h
      exact hm ((out_mem ho).mp h))).trans ?_
    exact hg j (by omega)

theorem o_store (c : Dev nD) {X : S512x512.Idx → F .f32} {r : Rect S512x512}
    {w : r.shape.Idx → Elt F .f32} {hx : (oM.access r : View sig .tc _ _ _).Stores Finset.univ} {hm}
    {α : Type} {Q : α → sProp 𝕄} {k : PUnit → Prog (TpuEff nD τ sig (Elt F) Λ₀ .tc) α} :
    oP c X ⊢ iprop((oP c ((oM.access r : View sig .tc _ _ _).write (Elt F) X w Finset.univ) -∗ WPc c (k ⟨⟩) Q) -∗ WPc c (.op (.store oM r w Finset.univ hx hm) k) Q) :=
  wp_store 𝒱₀ (c : Thread nD τ) none Set.univ (m := oM) (r := r) (w := w) (hx := hx) (hm := hm) (Q := Q) (k := k) (Finset.subset_univ _)

theorem out_store (f ch : ℕ) (hch : ch < 16) (c : Dev nD) {n : ℕ} (hn : n = 16 * f + ch) {off : Fin 2 → ℕ} (ho : off = ![32 * ch, 256 * f])
    {inb : ∀ a, off a + S32x256.size a ≤ S512x512.size a}
    {w : S32x256.Idx → F .f32} (hw : ∀ z, w z = FloatOps.extf .f32 (by decide) (fin m (aI f (32 * virt f ch + (z 0).val) (z 1).val)))
    {hx : (oM.access (outR off inb) : View sig .tc _ _ _).Stores Finset.univ} {hm}
    {α : Type} {Q : α → sProp 𝕄} {k : PUnit → Prog (TpuEff nD τ sig (Elt F) Λ₀ .tc) α} :
    outA m c n ⊢ iprop((outA m c (n + 1) -∗ WPc c (k ⟨⟩) Q) -∗ WPc c (.op (.store oM (outR off inb) w Finset.univ hx hm) k) Q) := by
  subst hn
  unfold outA
  iintro ⟨%g, %hg, H⟩ Hk
  iapply (o_store c (r := outR off inb) (w := w) (hx := hx) (hm := hm) (Q := Q) (k := k)) $$ H
  iintro H
  iapply Hk
  iexists ((oM.access (outR off inb) : View sig .tc _ _ _).write (Elt F) g w Finset.univ)
  isplitr
  · ipureintro; exact out_write m ho hw g hg hch
  iexact H

theorem drop_apply {α : Type} (v : (⟨3, ![1, 32, 256]⟩ : Shape).Idx → α) (e : (⟨3, ![1, 32, 256]⟩ : Shape).ShapeCasts S32x256) (z : S32x256.Idx) :
    shapeCast S32x256 v e z = v (Fin.cons ⟨0, Nat.one_pos⟩ z) := shapeCast_dropUnit_apply ![32, 256] v e z

/-- A block of the finished sum, as stored. -/
theorem out_apply (f b : ℕ) {off : Fin 3 → ℕ} (ho : off = ![f, b, 0])
    {inb : ∀ a, off a + (⟨3, ![1, 32, 256]⟩ : Shape).size a ≤ S2x512x256.size a}
    (e : (⟨3, ![1, 32, 256]⟩ : Shape).ShapeCasts S32x256) (z : S32x256.Idx) :
    (extf (F := F) .f32 (shapeCast S32x256 (accM.view.readAt (Elt F) (accR off 32 inb).toLoadRect (fin m)) e) bitsLt_bf16_f32) z
      = FloatOps.extf .f32 bitsLt_bf16_f32 (fin m (aI f (b + (z 0).val) (z 1).val)) := by
  have h : shapeCast S32x256 (accM.view.readAt (Elt F) (accR off 32 inb).toLoadRect (fin m)) e z = fin m (aI f (b + (z 0).val) (z 1).val) := by
    rw [drop_apply]
    exact acc_read b ho (fin m) (Fin.cons ⟨0, Nat.one_pos⟩ z)
  exact congrArg (FloatOps.extf .f32 bitsLt_bf16_f32) h

end Cert.KernelIdeal.Cube

end
-- ==== Proof.Passes.lean ====
/- A step of the reduction and a step of the gather, each for one flow: what a device holds for it, and the operations the
   kernel runs for it. A block of the partial product, and a block of the output. -/
module

public import proofs.«01_k».proof.Proof.Blocks

@[expose] public section

noncomputable section

namespace Cert.KernelIdeal.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 33 → ℕ)

/-! ## What a step takes and leaves -/

/-- What a device holds for one step of the reduction: the tokens it pays its own send semaphore and its partner's receive
    semaphore with, the credit of its receive, and its place at both its semaphores. -/
def rsRes (c : Dev nD) (t f : ℕ) : sProp 𝕄 :=
  iprop(dutyTok ER (dcell 0 t f c) 0 0 ∗ dutyTok ER (dcell 1 t f (pr t f c)) 0 0 ∗ cred (tallyAt (dcell 1 t f c) () (NR t)) ∗ atPos ER (dcell 0 t f c) 0 ∅ 0 ∗ atPos ER (dcell 1 t f c) 0 ∅ 0)
/-- The same of one step of the gather. -/
def agRes (c : Dev nD) (u f : ℕ) : sProp 𝕄 :=
  iprop(dutyTok ER (dcell 2 u f c) 0 0 ∗ dutyTok ER (dcell 3 u f (pr (3 - u) f c)) 0 0 ∗ cred (tallyAt (dcell 3 u f c) () (NR (3 - u)))
    ∗ atPos ER (dcell 2 u f c) 0 ∅ 0 ∗ atPos ER (dcell 3 u f c) 0 ∅ 0)
/-- What it holds between the transfer of a reduction's step and its wait, the rows it keeps among it; -/
def rsSent (c : Dev nD) (t f : ℕ) : sProp 𝕄 :=
  iprop(accP c (aK t f c) (St m t c) ∗ cred (tallyAt (dcell 0 t f c) () (NR t)) ∗ cred (tallyAt (dcell 1 t f c) () (NR t)) ∗ atPos ER (dcell 0 t f c) 0 ∅ 0 ∗ atPos ER (dcell 1 t f c) 0 ∅ 0)
/-- and the same of a gather's step. -/
def agSent (c : Dev nD) (u f : ℕ) : sProp 𝕄 :=
  iprop(cred (tallyAt (dcell 2 u f c) () (NR (3 - u))) ∗ cred (tallyAt (dcell 3 u f c) () (NR (3 - u))) ∗ atPos ER (dcell 2 u f c) 0 ∅ 0 ∗ atPos ER (dcell 3 u f c) 0 ∅ 0)
/-- What it holds after a step of the reduction: both semaphores at zero, and what it received. -/
def rsDone (c : Dev nD) (t f : ℕ) : sProp 𝕄 := iprop(semVal (dcell 0 t f c) 0 ∗ semVal (dcell 1 t f c) 0 ∗ bfP c (bR t f) (bfC m t c))
def agDone (c : Dev nD) (u f : ℕ) : sProp 𝕄 := iprop(semVal (dcell 2 u f c) 0 ∗ semVal (dcell 3 u f c) 0)
/-- The rows of its partner a device writes in a gather's step; the reduction's step of the same axis lent them to it. -/
def lent (c : Dev nD) (t f : ℕ) : sProp 𝕄 := accP (pr t f c) (aK t f c) (St m t (pr t f c))

/-- One of each of a list of things that a step and a flow name. -/
def grid (Φ : ℕ → ℕ → sProp 𝕄) : sProp 𝕄 := bigSep Finset.univ fun j : Fin 8 => Φ (j.val / 2) (j.val % 2)

theorem grid_eq (Φ : ℕ → ℕ → sProp 𝕄) : grid Φ = iprop(Φ 0 0 ∗ Φ 0 1 ∗ Φ 1 0 ∗ Φ 1 1 ∗ Φ 2 0 ∗ Φ 2 1 ∗ Φ 3 0 ∗ Φ 3 1) :=
  bigSep_univ_eq_bigSepL (I := Fin 8) [0, 1, 2, 3, 4, 5, 6, 7] (by decide) (by decide) _

omit [FloatOps F] in
theorem grid_sep (Φ Ψ : ℕ → ℕ → sProp 𝕄) : grid (fun t f => iprop(Φ t f ∗ Ψ t f)) = iprop(grid Φ ∗ grid Ψ) := bigSep_sep' _ _ _
omit [FloatOps F] in
theorem grid_mono {Φ Ψ : ℕ → ℕ → sProp 𝕄} (h : ∀ t < 4, ∀ f < 2, Φ t f ⊢ Ψ t f) : grid Φ ⊢ grid Ψ :=
  bigSep_mono fun j _ => h _ (by omega) _ (by omega)
omit [FloatOps F] in
/-- A device's cells: its transfers', and the barrier's; -/
theorem bigSep_cells (c : Dev nD) (Φ : GSem nD τ sig → sProp 𝕄) :
    (bigSep Finset.univ fun k : Fin 33 => Φ (kcell (c, k))) = iprop((bigSep Finset.univ fun k : Fin 32 => Φ ((c : Thread nD τ), osem k)) ∗ Φ (barCell c)) := by
  rw [bigSep_univ_equiv (finSumFinEquiv (m := 32) (n := 1)), bigSep_univ_sum, bigSep_univ_of_subsingleton (0 : Fin 1)]
  congr 1
omit [FloatOps F] in
/-- of the transfers', eight of each of the four kinds. -/
theorem bigSep_kcell (c : Dev nD) (Φ : GSem nD τ sig → sProp 𝕄) :
    (bigSep Finset.univ fun k : Fin 33 => Φ (kcell (c, k)))
      = iprop((grid (fun t f => Φ (dcell 0 t f c)) ∗ grid (fun t f => Φ (dcell 1 t f c)) ∗ grid (fun t f => Φ (dcell 2 t f c)) ∗ grid (fun t f => Φ (dcell 3 t f c)))
          ∗ Φ (barCell c)) := by
  have h (κ : Fin 4) : (bigSep Finset.univ fun j : Fin 8 => Φ ((c : Thread nD τ), osem (finProdFinEquiv (m := 4) (n := 8) (κ, j)))) = grid fun t f => Φ (dcell κ t f c) :=
    bigSep_congr fun j _ => congrArg (fun s => Φ ((c : Thread nD τ), s)) (by revert κ j; decide +kernel)
  rw [bigSep_cells, bigSep_univ_equiv (finProdFinEquiv (m := 4) (n := 8)), bigSep_univ_prod, bigSep_congr fun κ _ => h κ,
    bigSep_univ_eq_bigSepL (I := Fin 4) [0, 1, 2, 3] (by decide) (by decide)]
  rfl

/-! ## The reduction -/

section Reduction

theorem rs_start (t f : ℕ) (ht : t < 4) (hf : f < 2) (c n : Dev nD) (hn : n = pr t f c) {h : ℕ} (hh : rows t = h) (o : ℕ) (hO : o = 4 + 2 * t + f)
    {off offD : Fin 3 → ℕ} (ho : off = ![f, base t f (pr t f c), 0]) (hoD : offD = ![f, lnd t, 0])
    {qS qR : DmaSem sig} (hqS : qS = sq 0 t f) (hqR : qR = sq 1 t f)
    {inb : ∀ a, off a + (⟨3, ![1, h, 256]⟩ : Shape).size a ≤ S2x512x256.size a}
    {inbD : ∀ a, offD a + (⟨3, ![1, h, 256]⟩ : Shape).size a ≤ S2x480x256.size a} {hr hrD}
    {sz sz' : (⟨3, ![1, h, 256]⟩ : Shape).Squeezes (⟨2, ![h, 256]⟩ : Shape)}
    {hsc : ((bfM.slice (bfR offD h inbD) hrD).squeeze (⟨2, ![h, 256]⟩ : Shape) sz' : Memref sig (Dev.tc n : Thread nD τ).2.kind .vmem (⟨2, ![h, 256]⟩ : Shape) .bf16).view.ref.isScScratch = false}
    {hsrc : ((accM.slice (accR off h inb) hr).squeeze (⟨2, ![h, 256]⟩ : Shape) sz).view.WordExact}
    {hdst : ((bfM.slice (bfR offD h inbD) hrD).squeeze (⟨2, ![h, 256]⟩ : Shape) sz').view.WordExact}
    {hsem : DmaTarget.Typed .vmem (.dma qR) (.remote (Dev.tc n : Thread nD τ) ((bfM.slice (bfR offD h inbD) hrD).squeeze (⟨2, ![h, 256]⟩ : Shape) sz') (.dma qS) hsc)}
    {α : Type} {Q : α → sProp 𝕄} {k : PUnit → Prog (TpuEff nD τ sig (Elt F) Λ₀ .tc) α} :
    iprop(Ctx m K ∗ Ow c o ∗ accP c (aP t f c) (St m t c) ∗ bfE (F := F) (pr t f c) (bR t f) ∗ rsRes c t f)
      ⊢ iprop(((Ow c (o + 1) ∗ rsSent m c t f) -∗ WPc c (k ⟨⟩) Q)
          -∗ WPc c (.op (.enqueueDma ((accM.slice (accR off h inb) hr).squeeze (⟨2, ![h, 256]⟩ : Shape) sz)
                (.remote (Dev.tc n : Thread nD τ) ((bfM.slice (bfR offD h inbD) hrD).squeeze (⟨2, ![h, 256]⟩ : Shape) sz') (.dma qS) hsc) (.dma qR) hsrc hdst hsem) k) Q) := by
  subst hO
  unfold rsRes rsSent
  iintro ⟨#HC, HO, HA, HB, HtS, HtR, HcR, HaS, HaR⟩ Hk
  iapply (rs_send m K t f ht hf c n hn hh ho hoD hqS hqR) $$ [$HC $HA $HB $HO $HtS $HtR]
  iintro ⟨HA, HcS, HO⟩
  iapply Hk
  iframe

theorem rs_finish (t f : ℕ) (ht : t < 4) (hf : f < 2) (c : Dev nD) (n : ℕ) (hn : 4 + 2 * (t + 1) ≤ n) {h : ℕ} (hh : rows t = h)
    {off off' : Fin 3 → ℕ} (ho : off = ![f, base t f c, 0]) (ho' : off' = ![f, lnd t, 0])
    {qS qR : DmaSem sig} (hqS : qS = sq 0 t f) (hqR : qR = sq 1 t f)
    {src dst src' dst' : Memref sig .tc .vmem (⟨2, ![h, 256]⟩ : Shape) .bf16} {hs : src.view.WordExact} {hd : dst.view.WordExact} {hs' : src'.view.WordExact} {hd' : dst'.view.WordExact}
    {inb : ∀ a, off a + (⟨3, ![1, h, 256]⟩ : Shape).size a ≤ S2x512x256.size a}
    {inbB : ∀ a, off' a + (⟨3, ![1, h, 256]⟩ : Shape).size a ≤ S2x480x256.size a}
    {hl : accM.view.LoadsAt (accR off h inb).toLoadRect} {hlB : bfM.view.LoadsAt (bfR off' h inbB).toLoadRect} {hl' : accM.view.LoadsAt (accR off h inb).toLoadRect}
    {w : ((⟨3, ![1, h, 256]⟩ : Shape).Idx → F .bf16) → ((⟨3, ![1, h, 256]⟩ : Shape).Idx → F .bf16) → (⟨3, ![1, h, 256]⟩ : Shape).Idx → F .bf16}
    (hw : ∀ v v' z, w v v' z = addE (v z) (v' z))
    {hx : (accM.access (accR off h inb) : View sig .tc _ _ _).Stores Finset.univ} {hm}
    {α : Type} {Q : α → sProp 𝕄} {k : PUnit → Prog (TpuEff nD τ sig (Elt F) Λ₀ .tc) α} :
    iprop(Ctx m K ∗ Ow c n ∗ rsSent m c t f)
      ⊢ iprop(((Ow c n ∗ accP c (aP (t + 1) f c) (St m (t + 1) c) ∗ lent m c t f ∗ rsDone m c t f) -∗ WPc c (k ⟨⟩) Q)
          -∗ WPc c (.op (.waitDma2 qS src dst hs hd) fun _ => .op (.waitDma2 qR src' dst' hs' hd') fun _ =>
              .op (.load (e := .bf16) accM (accR off h inb).toLoadRect hl) fun (v : (⟨3, ![1, h, 256]⟩ : Shape).Idx → F .bf16) => .op (.load (e := .bf16) bfM (bfR off' h inbB).toLoadRect hlB) fun (v' : (⟨3, ![1, h, 256]⟩ : Shape).Idx → F .bf16) =>
              .op (.load (e := .bf16) accM (accR off h inb).toLoadRect hl') fun _ => .op (.store accM (accR off h inb) (w v v') Finset.univ hx hm) k) Q) := by
  unfold rsSent rsDone lent
  iintro ⟨#HC, HO, HA, HcS, HcR, HaS, HaR⟩ Hk
  iapply (wait_rs_send m K t f n ht hf hn c hh hqS) $$ [$HC $HcS $HO $HaS]
  iintro ⟨HO, HzS⟩
  iapply (wait_rs_recv m K t f n ht hf hn c hh hqR) $$ [$HC $HcR $HO $HaR]
  iintro ⟨HO, HzR, HB, HL⟩
  iapply (acc_load c (acc_set hh ho).subset) $$ HA
  iintro HA
  iapply (bf_load c (bf_set hh ho').subset) $$ HB
  iintro HB
  iapply (acc_load c (acc_set hh ho).subset) $$ HA
  iintro HA
  iapply (acc_step m t f hf c hh ho ho' (inbB := inbB) (hw _ _)) $$ HA
  iintro HA
  iapply Hk
  iframe

end Reduction

/-! ## The gather -/

section Gathering

theorem ag_start (u f : ℕ) (hu : u < 4) (hf : f < 2) (c n : Dev nD) (hn : n = pr (3 - u) f c) {h : ℕ} (hh : rows (3 - u) = h) (o : ℕ) (hO : o = 12 + 2 * u + f)
    {off : Fin 3 → ℕ} (ho : off = ![f, base (3 - u) f c, 0])
    {qS qR : DmaSem sig} (hqS : qS = sq 2 u f) (hqR : qR = sq 3 u f)
    {inb : ∀ a, off a + (⟨3, ![1, h, 256]⟩ : Shape).size a ≤ S2x512x256.size a} {hr}
    {sz : (⟨3, ![1, h, 256]⟩ : Shape).Squeezes (⟨2, ![h, 256]⟩ : Shape)}
    {hsc : ((accM.slice (accR off h inb) hr).squeeze (⟨2, ![h, 256]⟩ : Shape) sz : Memref sig (Dev.tc n : Thread nD τ).2.kind .vmem (⟨2, ![h, 256]⟩ : Shape) .bf16).view.ref.isScScratch = false}
    {hsrc : ((accM.slice (accR off h inb) hr).squeeze (⟨2, ![h, 256]⟩ : Shape) sz).view.WordExact}
    {hdst : ((accM.slice (accR off h inb) hr).squeeze (⟨2, ![h, 256]⟩ : Shape) sz).view.WordExact}
    {hsem : DmaTarget.Typed .vmem (.dma qR) (.remote (Dev.tc n : Thread nD τ) ((accM.slice (accR off h inb) hr).squeeze (⟨2, ![h, 256]⟩ : Shape) sz) (.dma qS) hsc)}
    {α : Type} {Q : α → sProp 𝕄} {k : PUnit → Prog (TpuEff nD τ sig (Elt F) Λ₀ .tc) α} :
    iprop(Ctx m K ∗ Ow c o ∗ accP c (aK (3 - u) f c) (fin m) ∗ lent m c (3 - u) f ∗ agRes c u f)
      ⊢ iprop(((Ow c (o + 1) ∗ agSent c u f) -∗ WPc c (k ⟨⟩) Q)
          -∗ WPc c (.op (.enqueueDma ((accM.slice (accR off h inb) hr).squeeze (⟨2, ![h, 256]⟩ : Shape) sz)
                (.remote (Dev.tc n : Thread nD τ) ((accM.slice (accR off h inb) hr).squeeze (⟨2, ![h, 256]⟩ : Shape) sz) (.dma qS) hsc) (.dma qR) hsrc hdst hsem) k) Q) := by
  subst hO
  unfold agRes agSent lent
  iintro ⟨#HC, HO, HA, HB, HtS, HtR, HcR, HaS, HaR⟩ Hk
  iapply (ag_send m K (3 - u) u f hu rfl hf c n hn hh ho hqS hqR) $$ [$HC $HA $HB $HO $HtS $HtR]
  iintro ⟨HcS, HO⟩
  iapply Hk
  iframe

theorem ag_finish (u f : ℕ) (hu : u < 4) (hf : f < 2) (c : Dev nD) (n : ℕ) (hn : 12 + 2 * (u + 1) ≤ n) {h : ℕ} (hh : rows (3 - u) = h)
    {qS qR : DmaSem sig} (hqS : qS = sq 2 u f) (hqR : qR = sq 3 u f)
    {src dst src' dst' : Memref sig .tc .vmem (⟨2, ![h, 256]⟩ : Shape) .bf16} {hs : src.view.WordExact} {hd : dst.view.WordExact} {hs' : src'.view.WordExact} {hd' : dst'.view.WordExact}
    {α : Type} {Q : α → sProp 𝕄} {k : PUnit → Prog (TpuEff nD τ sig (Elt F) Λ₀ .tc) α} :
    iprop(Ctx m K ∗ Ow c n ∗ agSent c u f)
      ⊢ iprop(((Ow c n ∗ accP c (aP (3 - u) f c) (fin m) ∗ agDone c u f) -∗ WPc c (k ⟨⟩) Q)
          -∗ WPc c (.op (.waitDma2 qS src dst hs hd) fun _ => .op (.waitDma2 qR src' dst' hs' hd') k) Q) := by
  unfold agSent agDone
  iintro ⟨#HC, HO, HcS, HcR, HaS, HaR⟩ Hk
  iapply (wait_ag_send m K (3 - u) u f n hu rfl hf (by omega) c hh hqS) $$ [$HC $HcS $HO $HaS]
  iintro ⟨HO, HzS, HA⟩
  iapply (wait_ag_recv m K (3 - u) u f n hu rfl hf hn c hh hqR) $$ [$HC $HcR $HO $HaR $HA]
  iintro ⟨HO, HzR, HA⟩
  iapply Hk
  iframe

end Gathering

/-! ## Blocks -/

section Block

/-- A block of the partial product goes to its place; what the place held is read first and not used. -/
theorem fill_block (c : Dev nD) {n : ℕ} {off : Fin 3 → ℕ} {inb : ∀ a, off a + (⟨3, ![1, 32, 256]⟩ : Shape).size a ≤ S2x512x256.size a}
    {w : (⟨3, ![1, 32, 256]⟩ : Shape).Idx → F .bf16}
    {hl : accM.view.LoadsAt (accR off 32 inb).toLoadRect} {hx : (accM.access (accR off 32 inb) : View sig .tc _ _ _).Stores Finset.univ} {hm}
    {α : Type} {Q : α → sProp 𝕄} {k : PUnit → Prog (TpuEff nD τ sig (Elt F) Λ₀ .tc) α}
    (ho : off = ![n / 16, 32 * virt (n / 16) (n % 16), 0]) (h : S512x512.Slices ![32 * (n % 16), 256 * (n / 16)] S32x256) {e : S32x256.ShapeCasts (⟨3, ![1, 32, 256]⟩ : Shape)}
    (hw : w = shapeCast (⟨3, ![1, 32, 256]⟩ : Shape) (extractStridedSlice S32x256 ![32 * (n % 16), 256 * (n / 16)] (part m c) h) e) :
    fillA m c n ⊢ iprop((fillA m c (n + 1) -∗ WPc c (k ⟨⟩) Q)
      -∗ WPc c (.op (.load (e := .bf16) accM (accR off 32 inb).toLoadRect hl) fun _ =>
          .op (.store accM (accR off 32 inb) w Finset.univ hx hm) k) Q) := by
  have hn : n / 16 + 1 ≤ 2 := by have := inb 0; rw [ho] at this; exact this
  subst hw
  iintro H Hk
  iapply (fill_load m c) $$ H
  iintro %_ H
  iapply (fill_store m (n / 16) (n % 16) (by omega) (by omega) c (n := n) (by omega) ho
    (fun z => block_apply (part m c) _ _ (by omega) (by omega) h e z)) $$ H
  iexact Hk

/-- A block of the output, read from the finished sum. -/
theorem out_block (c : Dev nD) {n : ℕ} {off : Fin 3 → ℕ} {inb : ∀ a, off a + (⟨3, ![1, 32, 256]⟩ : Shape).size a ≤ S2x512x256.size a}
    {off' : Fin 2 → ℕ} {inb' : ∀ a, off' a + S32x256.size a ≤ S512x512.size a}
    {w : ((⟨3, ![1, 32, 256]⟩ : Shape).Idx → F .bf16) → S32x256.Idx → F .f32}
    {hl : accM.view.LoadsAt (accR off 32 inb).toLoadRect} {hl' : oM.view.LoadsAt (outR off' inb').toLoadRect}
    {hx : (oM.access (outR off' inb') : View sig .tc _ _ _).Stores Finset.univ} {hm}
    {α : Type} {Q : α → sProp 𝕄} {k : PUnit → Prog (TpuEff nD τ sig (Elt F) Λ₀ .tc) α}
    (ho : off = ![n / 16, 32 * virt (n / 16) (n % 16), 0]) (ho' : off' = ![32 * (n % 16), 256 * (n / 16)])
    {e : (⟨3, ![1, 32, 256]⟩ : Shape).ShapeCasts S32x256} (hw : w = fun v => extf (F := F) .f32 (shapeCast S32x256 v e) bitsLt_bf16_f32) :
    iprop(accP c Finset.univ (fin m) ∗ outA m c n) ⊢ iprop(((accP c Finset.univ (fin m) ∗ outA m c (n + 1)) -∗ WPc c (k ⟨⟩) Q)
      -∗ WPc c (.op (.load (e := .bf16) accM (accR off 32 inb).toLoadRect hl) fun (v : (⟨3, ![1, 32, 256]⟩ : Shape).Idx → F .bf16) =>
          .op (.load (e := .f32) oM (outR off' inb').toLoadRect hl') fun _ =>
          .op (.store oM (outR off' inb') (w v) Finset.univ hx hm) k) Q) := by
  subst hw
  iintro ⟨HA, HP⟩ Hk
  iapply (acc_load c (Finset.subset_univ _)) $$ HA
  iintro HA
  iapply (out_load m c) $$ HP
  iintro %_ HP
  iapply (out_store m (n / 16) (n % 16) (by omega) c (n := n) (by omega) ho' (fun z => out_apply m (n / 16) _ ho (inb := inb) e z)) $$ HP
  iintro HP
  iapply Hk
  iframe

end Block

end Cert.KernelIdeal.Cube

end
-- ==== Proof.Body.lean ====
/- The kernel's body, from what the launch deals a device to what it leaves. -/
module

public import proofs.«01_k».proof.Proof.Passes

@[expose] public section

noncomputable section

namespace Cert.KernelIdeal.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 33 → ℕ)

theorem hz2 : (![0, 0] : Fin 2 → Nat) = fun _ => 0 := funext fun a => by fin_cases a <;> rfl

/-- The accumulator, filled, is the two flows' rows, -/
theorem acc_halves (c : Dev nD) : accP c Finset.univ (St m 0 c) ⊢ iprop(accP c (aP 0 0 c) (St m 0 c) ∗ accP c (aP 0 1 c) (St m 0 c)) := by
  rw [aP_zero_union]
  exact (accP_union (St m 0 c) aP_zero_disj).1
/-- and after the gather both flows' rows are the whole accumulator. -/
theorem acc_whole (c : Dev nD) : iprop(accP c (aP 0 0 c) (fin m) ∗ accP c (aP 0 1 c) (fin m)) ⊢ accP c Finset.univ (fin m) := by
  rw [aP_zero_union]
  exact (accP_union (fin m) aP_zero_disj).2

/-- A device's resources as the launch deals them, with its buffers; -/
def bodyRes (c : Dev nD) (a0 : S2x512x256.Idx → F .bf16) (g : S512x512.Idx → F .f32) : sProp 𝕄 :=
  iprop(Ctx m K ∗ Ow c 0 ∗ (dutyTok ER (barCell (xr 0 c)) 0 0 ∗ dutyTok ER (barCell (xr 1 c)) 0 1 ∗ dutyTok ER (barCell (xr 2 c)) 0 2 ∗ dutyTok ER (barCell (xr 3 c)) 0 3)
    ∗ grid (fun t f => bfE c (bR t f)) ∗ cred (tallyAt (barCell c) () 4) ∗ atPos ER (barCell c) 0 ∅ 0
    ∗ grid (rsRes c) ∗ grid (agRes c) ∗ accP c Finset.univ a0 ∗ xP m c ∗ iP m c ∗ wP m c ∗ oP c g)
/-- and as the body leaves them. -/
def bodyDone (c : Dev nD) : sProp 𝕄 :=
  iprop(Ow c 20 ∗ semVal (barCell c) 0 ∗ grid (rsDone m c) ∗ grid (agDone c)
    ∗ accP c Finset.univ (fin m) ∗ xP m c ∗ iP m c ∗ wP m c ∗ oP c (outC m))

set_option maxHeartbeats 4000000 in
set_option maxRecDepth 16000 in
/-- The body: the barrier, the partial product, four steps of the reduction, four of the gather, and the output. -/
theorem sound_body (c : Dev nD) (a0 : S2x512x256.Idx → F .bf16) (g : S512x512.Idx → F .f32) {h0 : xM.IsWhole} {h1 : iM.IsWhole} {h2 : wM.IsWhole} {h3 : oM.IsWhole} {h4 : accM.IsWhole} {h5 : bfM.IsWhole} {Q : PUnit → sProp 𝕄} :
    iprop(bodyRes m K c a0 g ∗ (bodyDone m c -∗ Q ⟨⟩)) ⊢ WPc c (cc0_body xM h0 iM h1 wM h2 oM h3 accM h4 bfM h5 cc0_scratch2 cc0_scratch3 cc0_scratch4 cc0_scratch5) Q := by
  rw [cc0_body_eq_skeleton]
  unfold cc0_body_skel bodyRes bodyDone
  simp only [k0_part1_eq_skeleton, k0_part1_skel, k0_part2_eq_skeleton, k0_part2_skel, k0_part3_eq_skeleton, k0_part3_skel, k0_part4_eq_skeleton, k0_part4_skel,
    k0_part5_eq_skeleton, k0_part5_skel, k0_part6_eq_skeleton, k0_part6_skel, k0_part7_eq_skeleton, k0_part7_skel, k0_part8_eq_skeleton, k0_part8_skel,
    k0_part9_eq_skeleton, k0_part9_skel, k0_part10_eq_skeleton, k0_part10_skel, k0_part11_eq_skeleton, k0_part11_skel, k0_part12_eq_skeleton, k0_part12_skel,
    k0_part13_eq_skeleton, k0_part13_skel, k0_part14_eq_skeleton, k0_part14_skel, k0_part15_eq_skeleton, k0_part15_skel, k0_part16_eq_skeleton, k0_part16_skel,
    k0_part17_eq_skeleton, k0_part17_skel, k0_part18_eq_skeleton, k0_part18_skel, k0_part19_eq_skeleton, k0_part19_skel, k0_part20_eq_skeleton, k0_part20_skel,
    k0_part21_eq_skeleton, k0_part21_skel, k0_part22_eq_skeleton, k0_part22_skel, k0_part23_eq_skeleton, k0_part23_skel, k0_part24_eq_skeleton, k0_part24_skel,
    k0_part25_eq_skeleton, k0_part25_skel, k0_part26_eq_skeleton, k0_part26_skel, k0_part27_eq_skeleton, k0_part27_skel, k0_part28_eq_skeleton, k0_part28_skel,
    k0_part29_eq_skeleton, k0_part29_skel, k0_part30_eq_skeleton, k0_part30_skel, k0_part31_eq_skeleton, k0_part31_skel, k0_part32_eq_skeleton, k0_part32_skel,
    k0_part33_eq_skeleton, k0_part33_skel,
    wp_deviceId, semSignalWord, semWaitWord, Prog.lift, Prog.bind_op, Prog.bind_ret, Prog.pure_eq_ret, grid_eq]
  iintro ⟨⟨#HC, HO, ⟨T0, T1, T2, T3⟩, ⟨E00, E01, E10, E11, E20, E21, E30, E31⟩, Hc, Ha, ⟨R00, R01, R10, R11, R20, R21, R30, R31⟩,
    ⟨G00, G01, G10, G11, G20, G21, G30, G31⟩, HA, HX, HI, HW, HP⟩, Hk⟩
  iapply (bar_signal m K 0 (by decide) c _ (dev1_eq c) rfl rfl) $$ [$HC $HO $T0 $E00 $E11]
  iintro HO
  iapply (bar_signal m K 1 (by decide) c _ (dev2_eq c) rfl rfl) $$ [$HC $HO $T1 $E20 $E31]
  iintro HO
  iapply (bar_signal m K 2 (by decide) c _ (dev3_eq c) rfl rfl) $$ [$HC $HO $T2 $E10 $E01]
  iintro HO
  iapply (bar_signal m K 3 (by decide) c _ (dev4_eq c) rfl rfl) $$ [$HC $HO $T3 $E30 $E21]
  iintro HO
  iapply (bar_wait m K c rfl rfl) $$ [$HC $Hc $HO $Ha]
  unfold barPay
  iintro ⟨HO, HZ, ⟨E00, E11⟩, ⟨E20, E31⟩, ⟨E10, E01⟩, ⟨E30, E21⟩⟩
  iapply (i_load m c hz2) $$ HI
  iintro HI
  iapply (x_load m c hz2) $$ HX
  iintro HX
  iapply (w0_load m c) $$ HW
  iintro HW
  iapply (w1_load m c) $$ HW
  iintro HW
  ihave HA := (fill_start m c a0) $$ HA
  iterate 32
    iapply (fill_block m c (by rfl) (by decide) (by rfl)) $$ HA
    iintro HA
  icases (acc_halves m c) $$ [HA] with ⟨A0, A1⟩
  · iapply (fill_end m c); iexact HA
  -- the reduction, step 0
  iapply (rs_start m K 0 0 (by decide) (by decide) c _ (dev5_eq c) (h := 256) rfl _ rfl (off1_eq c) rfl rfl rfl) $$ [$HC $HO $A0 $E00 $R00]
  iintro ⟨HO, R00⟩
  iapply (rs_start m K 0 1 (by decide) (by decide) c _ (dev6_eq c) (h := 256) rfl _ rfl (off2_eq c) rfl rfl rfl) $$ [$HC $HO $A1 $E01 $R01]
  iintro ⟨HO, R01⟩
  iapply (rs_finish m K 0 0 (by decide) (by decide) c _ (by decide) (h := 256) rfl (off3_eq c) rfl rfl rfl (fun v v' => add_apply v v' _ _)) $$ [$HC $HO $R00]
  iintro ⟨HO, A0, L00, R00⟩
  iapply (rs_finish m K 0 1 (by decide) (by decide) c _ (by decide) (h := 256) rfl (off4_eq c) rfl rfl rfl (fun v v' => add_apply v v' _ _)) $$ [$HC $HO $R01]
  iintro ⟨HO, A1, L01, R01⟩
  -- the reduction, step 1
  iapply (rs_start m K 1 0 (by decide) (by decide) c _ (dev7_eq c) (h := 128) rfl _ rfl (off5_eq c) rfl rfl rfl) $$ [$HC $HO $A0 $E10 $R10]
  iintro ⟨HO, R10⟩
  iapply (rs_start m K 1 1 (by decide) (by decide) c _ (dev8_eq c) (h := 128) rfl _ rfl (off6_eq c) rfl rfl rfl) $$ [$HC $HO $A1 $E11 $R11]
  iintro ⟨HO, R11⟩
  iapply (rs_finish m K 1 0 (by decide) (by decide) c _ (by decide) (h := 128) rfl (off7_eq c) rfl rfl rfl (fun v v' => add_apply v v' _ _)) $$ [$HC $HO $R10]
  iintro ⟨HO, A0, L10, R10⟩
  iapply (rs_finish m K 1 1 (by decide) (by decide) c _ (by decide) (h := 128) rfl (off8_eq c) rfl rfl rfl (fun v v' => add_apply v v' _ _)) $$ [$HC $HO $R11]
  iintro ⟨HO, A1, L11, R11⟩
  -- the reduction, step 2
  iapply (rs_start m K 2 0 (by decide) (by decide) c _ (dev9_eq c) (h := 64) rfl _ rfl (off9_eq c) rfl rfl rfl) $$ [$HC $HO $A0 $E20 $R20]
  iintro ⟨HO, R20⟩
  iapply (rs_start m K 2 1 (by decide) (by decide) c _ (dev10_eq c) (h := 64) rfl _ rfl (off10_eq c) rfl rfl rfl) $$ [$HC $HO $A1 $E21 $R21]
  iintro ⟨HO, R21⟩
  iapply (rs_finish m K 2 0 (by decide) (by decide) c _ (by decide) (h := 64) rfl (off11_eq c) rfl rfl rfl (fun v v' => add_apply v v' _ _)) $$ [$HC $HO $R20]
  iintro ⟨HO, A0, L20, R20⟩
  iapply (rs_finish m K 2 1 (by decide) (by decide) c _ (by decide) (h := 64) rfl (off12_eq c) rfl rfl rfl (fun v v' => add_apply v v' _ _)) $$ [$HC $HO $R21]
  iintro ⟨HO, A1, L21, R21⟩
  -- the reduction, step 3
  iapply (rs_start m K 3 0 (by decide) (by decide) c _ (dev11_eq c) (h := 32) rfl _ rfl (off13_eq c) rfl rfl rfl) $$ [$HC $HO $A0 $E30 $R30]
  iintro ⟨HO, R30⟩
  iapply (rs_start m K 3 1 (by decide) (by decide) c _ (dev12_eq c) (h := 32) rfl _ rfl (off14_eq c) rfl rfl rfl) $$ [$HC $HO $A1 $E31 $R31]
  iintro ⟨HO, R31⟩
  iapply (rs_finish m K 3 0 (by decide) (by decide) c _ (by decide) (h := 32) rfl (off15_eq c) rfl rfl rfl (fun v v' => add_apply v v' _ _)) $$ [$HC $HO $R30]
  iintro ⟨HO, A0, L30, R30⟩
  iapply (rs_finish m K 3 1 (by decide) (by decide) c _ (by decide) (h := 32) rfl (off16_eq c) rfl rfl rfl (fun v v' => add_apply v v' _ _)) $$ [$HC $HO $R31]
  iintro ⟨HO, A1, L31, R31⟩
  -- the gather, step 0
  ihave A0 := (Entails.of_eq (acc_fin m 0 (by decide) c)) $$ A0
  ihave A1 := (Entails.of_eq (acc_fin m 1 (by decide) c)) $$ A1
  iapply (ag_start m K 0 0 (by decide) (by decide) c _ (dev13_eq c) (h := 32) rfl _ rfl (off17_eq c) rfl rfl) $$ [$HC $HO $A0 $L30 $G00]
  iintro ⟨HO, G00⟩
  iapply (ag_start m K 0 1 (by decide) (by decide) c _ (dev14_eq c) (h := 32) rfl _ rfl (off18_eq c) rfl rfl) $$ [$HC $HO $A1 $L31 $G01]
  iintro ⟨HO, G01⟩
  iapply (ag_finish m K 0 0 (by decide) (by decide) c _ (by decide) (h := 32) rfl rfl rfl) $$ [$HC $HO $G00]
  iintro ⟨HO, A0, G00⟩
  iapply (ag_finish m K 0 1 (by decide) (by decide) c _ (by decide) (h := 32) rfl rfl rfl) $$ [$HC $HO $G01]
  iintro ⟨HO, A1, G01⟩
  -- the gather, step 1
  iapply (ag_start m K 1 0 (by decide) (by decide) c _ (dev15_eq c) (h := 64) rfl _ rfl (off19_eq c) rfl rfl) $$ [$HC $HO $A0 $L20 $G10]
  iintro ⟨HO, G10⟩
  iapply (ag_start m K 1 1 (by decide) (by decide) c _ (dev16_eq c) (h := 64) rfl _ rfl (off20_eq c) rfl rfl) $$ [$HC $HO $A1 $L21 $G11]
  iintro ⟨HO, G11⟩
  iapply (ag_finish m K 1 0 (by decide) (by decide) c _ (by decide) (h := 64) rfl rfl rfl) $$ [$HC $HO $G10]
  iintro ⟨HO, A0, G10⟩
  iapply (ag_finish m K 1 1 (by decide) (by decide) c _ (by decide) (h := 64) rfl rfl rfl) $$ [$HC $HO $G11]
  iintro ⟨HO, A1, G11⟩
  -- the gather, step 2
  iapply (ag_start m K 2 0 (by decide) (by decide) c _ (dev17_eq c) (h := 128) rfl _ rfl (off21_eq c) rfl rfl) $$ [$HC $HO $A0 $L10 $G20]
  iintro ⟨HO, G20⟩
  iapply (ag_start m K 2 1 (by decide) (by decide) c _ (dev18_eq c) (h := 128) rfl _ rfl (off22_eq c) rfl rfl) $$ [$HC $HO $A1 $L11 $G21]
  iintro ⟨HO, G21⟩
  iapply (ag_finish m K 2 0 (by decide) (by decide) c _ (by decide) (h := 128) rfl rfl rfl) $$ [$HC $HO $G20]
  iintro ⟨HO, A0, G20⟩
  iapply (ag_finish m K 2 1 (by decide) (by decide) c _ (by decide) (h := 128) rfl rfl rfl) $$ [$HC $HO $G21]
  iintro ⟨HO, A1, G21⟩
  -- the gather, step 3
  iapply (ag_start m K 3 0 (by decide) (by decide) c _ (dev19_eq c) (h := 256) rfl _ rfl (off23_eq c) rfl rfl) $$ [$HC $HO $A0 $L00 $G30]
  iintro ⟨HO, G30⟩
  iapply (ag_start m K 3 1 (by decide) (by decide) c _ (dev20_eq c) (h := 256) rfl _ rfl (off24_eq c) rfl rfl) $$ [$HC $HO $A1 $L01 $G31]
  iintro ⟨HO, G31⟩
  iapply (ag_finish m K 3 0 (by decide) (by decide) c _ (by decide) (h := 256) rfl rfl rfl) $$ [$HC $HO $G30]
  iintro ⟨HO, A0, G30⟩
  iapply (ag_finish m K 3 1 (by decide) (by decide) c _ (by decide) (h := 256) rfl rfl rfl) $$ [$HC $HO $G31]
  iintro ⟨HO, A1, G31⟩
  ihave HA := (acc_whole m c) $$ [$A0 $A1]
  ihave HP := (out_start m c g) $$ HP
  iterate 32
    iapply (out_block m c (by rfl) (by rfl) (by rfl)) $$ [$HA $HP]
    iintro ⟨HA, HP⟩
  ihave HP := (out_end m c) $$ HP
  unfold WPc; rw [wp_ret]; imodintro
  iapply Hk
  iframe

end Cert.KernelIdeal.Cube

end
-- ==== Proof.Obligation.lean ====
/- The kernel's body as the pipeline calls it: the proof data of its one point, and its obligation. -/
module

public import proofs.«01_k».proof.Proof.Body
public import proofs.«01_k».proof.Proof.Gen.KernelIdeal.Launch
public import proofs.«01_k».proof.Proof.Gen.KernelIdeal.Points

@[expose] public section

noncomputable section

namespace Cert.KernelIdeal.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 33 → ℕ)

/-! ## The landing buffer, region by region -/

theorem bR_disj {t f t' f' : ℕ} (h : f ≠ f' ∨ lnd t + rows t ≤ lnd t' ∨ lnd t' + rows t' ≤ lnd t) : Disjoint (bR t f) (bR t' f') :=
  Finset.disjoint_left.mpr fun i h1 h2 => by
    rw [mem_bR] at h1 h2
    omega
theorem bR_cover : (Finset.univ : Finset S2x480x256.Idx) = Finset.univ.biUnion fun j : Fin 8 => bR (j.val / 2) (j.val % 2) := by
  have h : ∀ a : Fin 2, ∀ b : Fin 480, ∃ j : Fin 8, a.val = j.val % 2 ∧ lnd (j.val / 2) ≤ b.val ∧ b.val < lnd (j.val / 2) + rows (j.val / 2) := by decide +kernel
  ext i
  obtain ⟨j, hj⟩ := h (i 0) (i 1)
  exact iff_of_true (Finset.mem_univ i) (Finset.mem_biUnion.mpr ⟨j, Finset.mem_univ j, mem_bR.mpr hj⟩)

theorem bR_apart : ∀ j j' : Fin 8, j ≠ j' → Disjoint (bR (j.val / 2) (j.val % 2)) (bR (j'.val / 2) (j'.val % 2)) := by
  have h : ∀ j j' : Fin 8, j ≠ j' → j.val % 2 ≠ j'.val % 2 ∨ lnd (j.val / 2) + rows (j.val / 2) ≤ lnd (j'.val / 2) ∨ lnd (j'.val / 2) + rows (j'.val / 2) ≤ lnd (j.val / 2) := by
    decide +kernel
  exact fun j j' hj => bR_disj (h j j' hj)

/-- The landing buffer over any of its regions is a share for each. -/
theorem bfE_regions (c : Dev nD) (J : Finset (Fin 8)) :
    (bfE c (J.biUnion fun j => bR (j.val / 2) (j.val % 2)) : sProp 𝕄) ⊣⊢ bigSep J fun j => bfE c (bR (j.val / 2) (j.val % 2)) := by
  refine Finset.induction_on J ?_ fun j J hj ih => ?_
  · rw [Finset.biUnion_empty, bigSep_empty]
    unfold bfE bfP
    constructor
    · iintro -; iempintro
    · iintro -; iexists (fun _ => FloatOps.ofBits .bf16 0)
      iapply (Entails.of_eq (pointsTo_empty (ℓ := (c : Thread nD τ).loc cc0_scratch1) (q := fullShare)).symm)
      iempintro
  · have hd := (Finset.disjoint_biUnion_right _ J _).mpr fun j' hj' => bR_apart j j' fun e => hj (e ▸ hj')
    rw [Finset.biUnion_insert, bigSep_insert hj]
    exact ⟨(bfE_split hd).trans (sep_mono_right ih.1), (sep_mono_right ih.2).trans (bfE_join hd)⟩
theorem bf_regions (c : Dev nD) : (bfE c Finset.univ : sProp 𝕄) ⊣⊢ grid fun t f => bfE c (bR t f) := by
  rw [bR_cover]
  exact bfE_regions c Finset.univ

/-! ## The launch's resources -/

/-- What a device pays its own and the others' semaphores with; -/
def payToks (c : Dev nD) : sProp 𝕄 :=
  iprop((grid (fun t f => dutyTok ER (dcell 0 t f c) 0 0) ∗ grid (fun t f => dutyTok ER (dcell 1 t f (pr t f c)) 0 0)
      ∗ grid (fun t f => dutyTok ER (dcell 2 t f c) 0 0) ∗ grid (fun t f => dutyTok ER (dcell 3 t f (pr (3 - t) f c)) 0 0))
    ∗ dutyTok ER (barCell (xr 0 c)) 0 0 ∗ dutyTok ER (barCell (xr 1 c)) 0 1 ∗ dutyTok ER (barCell (xr 2 c)) 0 2 ∗ dutyTok ER (barCell (xr 3 c)) 0 3)
/-- its places at its own; -/
def places (c : Dev nD) : sProp 𝕄 := bigSep Finset.univ fun k : Fin 33 => atPos ER (kcell (c, k)) 0 ∅ 0
/-- what its receives will be credited. -/
def credits (c : Dev nD) : sProp 𝕄 :=
  iprop(cred (tallyAt (barCell c) () 4) ∗ grid (fun t f => cred (tallyAt (dcell 1 t f c) () (NR t))) ∗ grid (fun u f => cred (tallyAt (dcell 3 u f c) () (NR (3 - u)))))

def start (c : Dev nD) : sProp 𝕄 := iprop((∃ K, records m K ∗ places c ∗ payToks c) ∗ credits c ∗ levAts L lv)

theorem res_intro (c : Dev nD) (a0 : S2x512x256.Idx → F .bf16) (g : S512x512.Idx → F .f32) :
    iprop(records m K ∗ (places c ∗ payToks c) ∗ credits c ∗ levAts L lv ∗ Ow c 0 ∗ accP c Finset.univ a0 ∗ bfE c Finset.univ ∗ xP m c ∗ iP m c ∗ wP m c ∗ oP c g)
      ⊢ bodyRes m K c a0 g := by
  unfold places payToks credits bodyRes Ctx
  rw [show rsRes (F := F) c = fun t f => _ from funext₂ fun t f => rfl, show agRes (F := F) c = fun u f => _ from funext₂ fun u f => rfl]
  unfold rsRes agRes
  simp only [grid_sep]
  rw [bigSep_kcell c fun g => atPos ER g 0 ∅ 0]
  iintro ⟨#HR, ⟨⟨⟨A0, A1, A2, A3⟩, AB⟩, ⟨T0, T1, T2, T3⟩, TB⟩, ⟨CB, C1, C3⟩, #HL, HO, HA, HB, HX, HI, HW, HP⟩
  ihave HB := (bf_regions (F := F) c).1 $$ HB
  iframe HR HL
  iframe

/-! ## The proof data, and the body's obligation -/

/-- Before the body: the launch's resources and the two scratch buffers; -/
def Φ₀ (c : Dev nD) : sProp 𝕄 := iprop(start m c ∗ (∃ a0, accP (F := F) c Finset.univ a0) ∗ bfE (F := F) c Finset.univ)
/-- after it: the buffers, and every semaphore at zero. -/
def Φ₁ (c : Dev nD) : sProp 𝕄 :=
  iprop((bigSep Finset.univ fun k : Fin 33 => semVal (kcell (c, k)) 0) ∗ (∃ a0, accP (F := F) c Finset.univ a0) ∗ bfE (F := F) c Finset.univ)

variable (ρ : Dev nD → PrngReg)

def dats (_ : Fin 1) (c : Dev nD) : Dat τ (Elt F) Unit ℕ UU ℕ cfg0 c where
  A w := m ((cfg0.win w).arr.view.loc (c : Thread nD τ))
  after w _ := match w with
    | ⟨0, _⟩ => xs m c
    | ⟨1, _⟩ => rs m c
    | ⟨2, _⟩ => ws m c
    | ⟨3, _⟩ => outC m
  Φ t := match t with
    | ⟨0, _⟩ => Φ₀ m c
    | ⟨_ + 1, _⟩ => Φ₁ c
  q _ := fullShare
  owed t := match t with
    | ⟨0, _⟩ => Od c 0
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer whole at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
def bodyPost (c : Dev nD) : sProp 𝕄 :=
  iprop(Φ₁ c ∗ (dats m 0 c).owesAt () t0_0.succ ∗ stg c cc0_stg0_0 (xs m c) ∗ stg c cc0_stg1_0 (rs m c) ∗ stg c cc0_stg2_0 (ws m c)
    ∗ stg c cc0_stg3_0 (outC m))

theorem before_0 (c : Dev nD) (d) : (dats m 0 c).before (0 : Fin 4) t0_0 d = xs m c := by unfold Dat.before; rw [if_pos (fetch0_0 t0_0)]; rfl
theorem before_1 (c : Dev nD) (d) : (dats m 0 c).before (1 : Fin 4) t0_0 d = rs m c := by unfold Dat.before; rw [if_pos (fetch0_1 t0_0)]; rfl
theorem before_2 (c : Dev nD) (d) : (dats m 0 c).before (2 : Fin 4) t0_0 d = ws m c := by unfold Dat.before; rw [if_pos (fetch0_2 t0_0)]; rfl

/-- What the body leaves is what the pipeline takes back. -/
theorem done_post (c : Dev nD) : bodyDone m c ⊢ bodyPost m c := by
  unfold bodyDone bodyPost Φ₁ Dat.owesAt Pipeline.owesWithin Ow
  rw [show (dats m 0 c).owed t0_0.succ = 0 from rfl, Od_last, show rsDone m c = fun t f => _ from funext₂ fun t f => rfl, show agDone (F := F) c = fun u f => _ from funext₂ fun u f => rfl]
  unfold rsDone agDone
  simp only [grid_sep]
  rw [bigSep_kcell c fun g => semVal g 0]
  iintro ⟨⟨%W, HO⟩, HZ, ⟨Z0, Z1, HB⟩, ⟨Z2, Z3⟩, HA, HX, HI, HW, HP⟩
  ihave HB := (grid_mono fun t _ f _ => show bfP c (bR t f) (bfC m t c) ⊢ (bfE c (bR t f) : sProp 𝕄) from by unfold bfE; iintro H; iexists _; iexact H) $$ HB
  ihave HB := (bf_regions (F := F) c).2 $$ HB
  iframe HZ Z0 Z1 Z2 Z3 HB
  isplitl [HA]; · iexists _; iexact HA
  isplitl [HO]
  · iexists W
    isplitr; · ipureintro; exact fun _ _ => Or.inl trivial
    iexact HO
  unfold xP iP wP oP
  isplitl [HX]; · (iexists _; isplitr; (ipureintro; rfl); iexact HX)
  isplitl [HI]; · (iexists _; isplitr; (ipureintro; rfl); iexact HI)
  isplitl [HW]; · (iexists _; isplitr; (ipureintro; rfl); iexact HW)
  iexists _; isplitr; · (ipureintro; rfl)
  iexact HP

theorem body_run (c : Dev nD) : bodyPre m c ⊢ wp frame (wpE (defs₀ (F := F)) 𝒱₀ (c : Thread nD τ) none) Set.univ
    (cc0_body xM (Memref.isWhole_whole _) iM (Memref.isWhole_whole _) wM (Memref.isWhole_whole _) oM (Memref.isWhole_whole _)
      accM (Memref.isWhole_whole _) bfM (Memref.isWhole_whole _) cc0_scratch2 cc0_scratch3 cc0_scratch4 cc0_scratch5) (fun _ => bodyPost m c) := by
  unfold bodyPre Φ₀ start Dat.owesAt Pipeline.owesWithin
  simp only [before_0, before_1, before_2]
  rw [show (dats m 0 c).owed t0_0.castSucc = Od c 0 from rfl]
  iintro ⟨⟨⟨⟨%K, #HR, HL⟩, Hc, #Hlev⟩, ⟨%a0, HA⟩, HB⟩, ⟨%W, %hW, HO⟩, ⟨%d0, %g0, %h0, HX⟩, ⟨%d1, %g1, %h1, HI⟩, ⟨%d2, %g2, %h2, HW⟩, ⟨%d3, %g3, %h3, HP⟩⟩
  subst h0 h1 h2
  iapply (sound_body m K c a0 g3)
  isplitr []
  · iapply (res_intro m K c a0 g3)
    unfold Ow xP iP wP oP
    isplitr; · iexact HR
    isplitl [HL]; · iexact HL
    isplitl [Hc]; · iexact Hc
    isplitr; · iexact Hlev
    isplitl [HO]; · iexists W; iexact HO
    isplitl [HA]; · iexact HA
    isplitl [HB]; · iexact HB
    isplitl [HX]; · iexact HX
    isplitl [HI]; · iexact HI
    isplitl [HW]; · iexact HW
    iexact HP
  · iintro H
    iapply (done_post m c) $$ H

set_option maxRecDepth 8000 in
theorem body_obligation (c : Dev nD) : BodyObligation (dats (F := F) m 0 c) (defs₀ (F := F)) 𝒱₀ () Set.univ := fun t => by
  rw [fin_N0 t]
  rw [bigSep_W0, bigSep_W0]
  simp only [owns_whole_eq]
  exact body_run m c

end Cert.KernelIdeal.Cube

end
-- ==== Proof.Launch.lean ====
/- The launch: the cells' ghost state dealt to the sixteen devices, and the run of the whole program. -/
module

public import proofs.«01_k».proof.Proof.Obligation
public import Idealize.ShloMosaic.Lib.Pipeline.Launch
public import Idealize.ShloMosaic.Lib.Pipeline.Kit
public import Idealize.ShloMosaic.Lib.Pipeline.CollectiveSegs
public import Idealize.ShloMosaic.Lib.Quiescent
public import Idealize.ShloMosaic.Lib.Tactic

@[expose] public section

noncomputable section

namespace Cert.KernelIdeal.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 33 → ℕ)

variable (ρ : Dev nD → PrngReg)

/-! ## The cells -/

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide +kernel
theorem kcell_injective : Function.Injective (kcell : Dev nD × Fin 33 → GSem nD τ sig) := by
  rintro ⟨c, k⟩ ⟨c', k'⟩ h
  have h1 : c = c' := congrArg (fun g : GSem nD τ sig => g.1.1) h
  have h2 : k = k' := csem_injective (congrArg Prod.snd h)
  rw [h1, h2]
def cubeCells : Finset (GSem nD τ sig) := Finset.univ.map ⟨kcell, kcell_injective⟩

/-- A device's tokens: one for each of its transfers' semaphores, by kind, step and flow, and one for each axis of the barrier. -/
abbrev Tok : Type := (Fin 4 × Fin 8) ⊕ Fin 4
/-- The cell of a token; its duty; -/
def tokCell : Tok → Fin 33
  | .inl (κ, j) => kx κ (j.val / 2) (j.val % 2)
  | .inr _ => 32
def tokDuty : Tok → ℕ
  | .inl _ => 0
  | .inr d => d
def tokOf (cj : Dev nD × Tok) : GSem nD τ sig × ℕ × ℕ := (kcell (cj.1, tokCell cj.2), 0, tokDuty cj.2)
theorem tok_pair : ∀ j j' : Tok, tokCell j = tokCell j' → tokDuty j = tokDuty j' → j = j' := by decide +kernel
theorem tokOf_injective : Function.Injective tokOf := by
  rintro ⟨c, j⟩ ⟨c', j'⟩ h
  have hk := kcell_injective (congrArg (fun x : GSem nD τ sig × ℕ × ℕ => x.1) h)
  have h1 : c = c' := congrArg Prod.fst hk
  have h2 : j = j' := tok_pair j j' (congrArg Prod.snd hk) (congrArg (fun x : GSem nD τ sig × ℕ × ℕ => x.2.2) h)
  rw [h1, h2]
def cubeToks : Finset (GSem nD τ sig × ℕ × ℕ) := Finset.univ.map ⟨tokOf, tokOf_injective⟩

/-- The device whose semaphore a device's transfer signals; -/
def payee (κ t f : ℕ) (c : Dev nD) : Dev nD := if κ = 1 then pr t f c else if κ = 3 then pr (3 - t) f c else c
/-- and the device whose token `j` device `c` pays with. -/
def tokDev (j : Tok) (c : Dev nD) : Dev nD :=
  match j with
  | .inl (κ, j) => payee κ (j.val / 2) (j.val % 2) c
  | .inr d => xr d c
theorem tokDev_tokDev (j : Tok) (c : Dev nD) : tokDev j (tokDev j c) = c := by revert j c; decide +kernel
def deal : Dev nD × Tok ≃ Dev nD × Tok where
  toFun x := (tokDev x.2 x.1, x.2)
  invFun x := (tokDev x.2 x.1, x.2)
  left_inv x := Prod.ext (tokDev_tokDev x.2 x.1) rfl
  right_inv x := Prod.ext (tokDev_tokDev x.2 x.1) rfl

def u₀ : UU :=
  (initOf (Pipeline.cells cfgs cellOf_inj) (Pipeline.launchToks cfgs cellOf_inj), initOf cubeCells cubeToks)

abbrev tokP (cj : Dev nD × Tok) : sProp 𝕄 := dutyTok ER (tokOf cj).1 (tokOf cj).2.1 (tokOf cj).2.2
/-- A device's own tokens. -/
def toks (c : Dev nD) : sProp 𝕄 := bigSep Finset.univ fun j : Tok => tokP (F := F) (c, j)

def G (c : Dev nD) : sProp 𝕄 :=
  iprop((bigSep Finset.univ fun k : Fin 33 => roundState ER (Rd m) (kcell (c, k)) 0)
    ∗ (bigSep Finset.univ fun k : Fin 33 => iprop(atPos ER (kcell (c, k)) 0 ∅ 0 ∗ reached ER (kcell (c, k)) 0)) ∗ toks c)
def G' (c : Dev nD) : sProp 𝕄 := iprop(∃ K, records m K ∗ places c ∗ payToks c)

theorem fund_cube : BI.own (ER (initOf cubeCells cubeToks)) ⊢ (|==> bigSep Finset.univ (G m) : sProp 𝕄) := by
  have hX (Φ : GSem nD τ sig → sProp 𝕄) : bigSep cubeCells Φ = bigSep Finset.univ fun c : Dev nD => bigSep Finset.univ fun k : Fin 33 => Φ (kcell (c, k)) := by
    unfold cubeCells; rw [bigSep_map, bigSep_univ_prod]; rfl
  have hT : bigSep cubeToks (fun x => (dutyTok ER x.1 x.2.1 x.2.2 : sProp 𝕄)) = bigSep Finset.univ fun c : Dev nD => toks c := by
    unfold cubeToks; rw [bigSep_map, bigSep_univ_prod]; rfl
  iintro HX
  imod (Rounds.fund ER (Rd m) cubeCells cubeToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

abbrev own0 (c : Dev nD) : sProp 𝕄 := Pipeline.ownSems0 (Ix := Unit) (Name := ℕ) (U := UU) (Lvl := ℕ) (Val := Elt F) (τ := τ) osem c

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) : iprop(own0 (F := F) c ∗ unscopedSems0 c) = (bigSep Finset.univ fun k : Fin 33 => semVal (kcell (c, k)) 0 : sProp 𝕄) := by
  rw [bigSep_cells c fun g => semVal g 0, unscopedSems0_eq]; rfl

theorem core_alloc (c : Dev nD) :
    iprop(own0 (F := F) c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun k : Fin 33 => semVal (kcell (c, k)) 0) ∗ bigSep Finset.univ fun k : Fin 33 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A device is dealt what it pays with. -/
theorem payToks_eq (c : Dev nD) : (bigSep Finset.univ fun j : Tok => tokP (F := F) (deal (c, j))) = payToks c := by
  have h (κ : Fin 4) : (bigSep Finset.univ fun j : Fin 8 => tokP (F := F) (deal (c, .inl (κ, j)))) = grid fun t f => dutyTok ER (dcell κ t f (payee κ t f c)) 0 0 :=
    bigSep_congr fun j _ => congrArg (fun g => dutyTok ER g 0 0) (kcell_dma _ κ.isLt (by omega) (by omega))
  rw [bigSep_univ_sum, bigSep_univ_prod, bigSep_congr fun κ _ => h κ]
  iterate 2 rw [bigSep_univ_eq_bigSepL (I := Fin 4) [0, 1, 2, 3] (by decide) (by decide)]
  rfl

omit [FloatOps F] in
/-- Every token dealt to the device that pays with it. -/
theorem toks_around : (bigSep Finset.univ fun c : Dev nD => toks (F := F) c) = bigSep Finset.univ fun c : Dev nD => payToks c := by
  unfold toks
  rw [← bigSep_univ_prod (fun cj : Dev nD × Tok => tokP (F := F) cj), bigSep_univ_equiv deal, bigSep_univ_prod]
  exact bigSep_congr fun c _ => payToks_eq c

theorem ghost_intro (K : Dev nD × Fin 33 → ℕ) (c : Dev nD) : iprop(records m K ∗ places c ∗ payToks c) ⊢ G' m c := by
  unfold G'
  iintro H
  iexists K
  iexact H

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 33 => iprop(∃ κ : ℕ, cellInv ER (Rd m) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄)), toks_around]
  iintro ⟨HI, ⟨Hat, #HR⟩, Htok⟩
  ihave HK := (BI.bigSep_exists_pi Finset.univ (fun (ck : Dev nD × Fin 33) (κ : ℕ) => (cellInv ER (Rd m) κ (kcell ck) : sProp 𝕄))) $$ HI
  icases HK with ⟨%K, #HI⟩
  iapply (bigSep_with (R := records m K) fun c _ => ghost_intro m K c)
  isplitr
  · unfold records; isplitl; · iexact HI
    iexact HR
  · iapply (Entails.of_eq (bigSep_sep' Finset.univ (fun c : Dev nD => (places c : sProp 𝕄)) payToks).symm)
    isplitl [Hat]; · iexact Hat
    iexact Htok

theorem glob : (bigSep Finset.univ fun c => iprop(own0 (F := F) c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## What the launch credits -/

/-- The device, the semaphore and the amount of a device's `k`th payment. -/
def pdev (k : ℕ) (c : Dev nD) : Dev nD :=
  if k < 4 then xr k c else if k < 12 then pr ((k - 4) / 2) ((k - 4) % 2) c else pr (3 - (k - 12) / 2) ((k - 12) % 2) c
def psem (k : ℕ) : SemLoc sig :=
  if k < 4 then .reg barS else if k < 12 then .dma (sq 1 ((k - 4) / 2) ((k - 4) % 2)) else .dma (sq 3 ((k - 12) / 2) ((k - 12) % 2))
def pamt (k : ℕ) : ℕ := if k < 4 then 1 else if k < 12 then NR ((k - 4) / 2) else NR (3 - (k - 12) / 2)
theorem pay_eq (c : Dev nD) (k : ℕ) : pay c k = (((pdev k c : Thread nD τ), psem k), pamt k) := by
  unfold pay pdev psem pamt
  split
  · rfl
  split <;> rfl
theorem pdev_pdev : ∀ k < 20, ∀ c : Dev nD, pdev k (pdev k c) = c := by decide +kernel

theorem owed_term (d c : Dev nD) (s : SemLoc sig) (k : ℕ) (hk : k < 20) :
    (tallyAt (pay d k).1 () (pay d k).2 : CellTallies nD τ sig Unit) ((c : Thread nD τ), s) () = if d = pdev k c then (if psem k = s then pamt k else 0) else 0 := by
  rw [pay_eq, tallyAt_apply]
  by_cases h : d = pdev k c
  · rw [if_pos h, h, pdev_pdev k hk]
    by_cases hs : psem k = s
    · rw [if_pos hs, if_pos ⟨by rw [hs], rfl⟩]
    · rw [if_neg hs, if_neg (fun e => hs (congrArg Prod.snd e.1).symm)]
  · rw [if_neg h, if_neg]
    rintro ⟨e, -⟩
    have e1 : c = pdev k d := congrArg (fun g : GSem nD τ sig => g.1.1) e
    exact h (by rw [e1, pdev_pdev k hk])

/-- What all devices together owe a semaphore of device `c`. -/
theorem owed_sum (c : Dev nD) (s : SemLoc sig) :
    ∑ d : Dev nD, (Od d 0 : CellTallies nD τ sig Unit) ((c : Thread nD τ), s) () = ∑ k ∈ Finset.range 20, if psem k = s then pamt k else 0 := by
  have h (d : Dev nD) : (Od d 0 : CellTallies nD τ sig Unit) ((c : Thread nD τ), s) ()
      = ∑ k ∈ Finset.range 20, if d = pdev k c then (if psem k = s then pamt k else 0) else 0 := by
    unfold Od
    rw [Finset.sum_apply, Finsupp.finset_sum_apply, Nat.Ico_zero_eq_range]
    exact Finset.sum_congr rfl fun k hk => owed_term d c s k (Finset.mem_range.mp hk)
  rw [Finset.sum_congr rfl fun d _ => h d, Finset.sum_comm]
  refine Finset.sum_congr rfl fun k _ => ?_
  rw [Finset.sum_ite_eq' Finset.univ (pdev k c) fun _ => if psem k = s then pamt k else 0, if_pos (Finset.mem_univ _)]

theorem psem_bar : ∀ k < 20, psem k = .reg barS ↔ k < 4 := by decide +kernel
theorem psem_rs : ∀ t < 4, ∀ f < 2, ∀ k < 20, psem k = .dma (sq 1 t f) ↔ k = 4 + 2 * t + f := by decide +kernel
theorem psem_ag : ∀ u < 4, ∀ f < 2, ∀ k < 20, psem k = .dma (sq 3 u f) ↔ k = 12 + 2 * u + f := by decide +kernel

theorem owed_bar (c : Dev nD) : ∑ d : Dev nD, (Od d 0 : CellTallies nD τ sig Unit) (barCell c) () = 4 := by
  rw [owed_sum c (.reg barS), Finset.sum_congr rfl fun k hk => if_congr (psem_bar k (Finset.mem_range.mp hk)) rfl rfl]
  rw [Finset.sum_congr rfl (fun k hk => show (if k < 4 then pamt k else 0) = if k < 4 then 1 else 0 from by
    by_cases h : k < 4
    · rw [if_pos h, if_pos h]; exact if_pos h
    · rw [if_neg h, if_neg h])]
  rfl
theorem owed_one (c : Dev nD) (s : SemLoc sig) (n : ℕ) (hn : n < 20) (h : ∀ k < 20, psem k = s ↔ k = n) :
    ∑ d : Dev nD, (Od d 0 : CellTallies nD τ sig Unit) ((c : Thread nD τ), s) () = pamt n := by
  rw [owed_sum c s, Finset.sum_congr rfl fun k hk => if_congr (h k (Finset.mem_range.mp hk)) rfl rfl, Finset.sum_ite_eq' (Finset.range 20) n pamt,
    if_pos (Finset.mem_range.mpr hn)]
theorem owed_rs (c : Dev nD) (t f : ℕ) (ht : t < 4) (hf : f < 2) : ∑ d : Dev nD, (Od d 0 : CellTallies nD τ sig Unit) (dcell 1 t f c) () = NR t := by
  refine (owed_one c (.dma (sq 1 t f)) (4 + 2 * t + f) (by omega) (psem_rs t ht f hf)).trans ?_
  unfold pamt
  rw [if_neg (by omega), if_pos (by omega), show (4 + 2 * t + f - 4) / 2 = t by omega]
theorem owed_ag (c : Dev nD) (u f : ℕ) (hu : u < 4) (hf : f < 2) : ∑ d : Dev nD, (Od d 0 : CellTallies nD τ sig Unit) (dcell 3 u f c) () = NR (3 - u) := by
  refine (owed_one c (.dma (sq 3 u f)) (12 + 2 * u + f) (by omega) (psem_ag u hu f hf)).trans ?_
  unfold pamt
  rw [if_neg (by omega), if_neg (by omega), show (12 + 2 * u + f - 12) / 2 = u by omega]

attribute [local irreducible] Od

abbrev O₀ (c : Dev nD) : CellTallies nD τ sig Unit := Od c 0

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same]
  exact h
omit [FloatOps F] in
theorem cred_at (c : Dev nD) (s : SemLoc sig) (n : ℕ) (h : ∑ d : Dev nD, O₀ d ((c : Thread nD τ), s) () = n) :
    (cred (tallyOn ((c : Thread nD τ), s) (launchCredit (Pipeline.owing O₀) 0 ((c : Thread nD τ), s))) : sProp 𝕄) ⊢ cred (tallyAt ((c : Thread nD τ), s) () n) :=
  Entails.of_eq (congrArg _ (launch_at _ n h))

omit [FloatOps F] in
/-- The credits a device waits with: its barrier's, and those of the semaphores its partners' transfers signal. -/
theorem creds (c : Dev nD) : (Pipeline.launchCred O₀ c : sProp 𝕄) ⊢ credits c := by
  unfold Pipeline.launchCred credits
  refine (bigSep_subset (Finset.subset_univ (Finset.univ.map ⟨csem, csem_injective⟩))).trans ?_
  rw [bigSep_map]
  refine (Entails.of_eq (bigSep_kcell c fun g => cred (tallyOn g (launchCredit (Pipeline.owing O₀) 0 g)))).trans ?_
  iintro ⟨⟨-, H1, -, H3⟩, HB⟩
  isplitl [HB]; · iapply (cred_at c (.reg barS) 4 (owed_bar c)) $$ HB
  isplitl [H1]
  · iapply (grid_mono fun t ht f hf => cred_at c (.dma (sq 1 t f)) (NR t) (owed_rs c t f ht hf)) $$ H1
  · iapply (grid_mono fun u hu f hf => cred_at c (.dma (sq 3 u f)) (NR (3 - u)) (owed_ag c u f hu hf)) $$ H3

/-! ## The run -/

/-- The router's weights, which the kernel never reads. -/
def Zr (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ Zr m c) := by
  rw [Pipeline.unscopedRestP_eq_of_list cfg0.spec c Pipeline.Prefetch.none (fun b => m ((c : Thread nD τ).loc b)) [main_arg1] (by decide) (by decide),
    show (bigSepL [main_arg1] fun b => ((c.tc : Thread nD τ).loc b) ↦{fullShare} m ((c : Thread nD τ).loc b) : sProp 𝕄) = Zr m c from rfl]
  iintro ⟨HZ, Hlev, Hcr, -, HG⟩
  ihave Hc := (creds (F := F) c) $$ Hcr
  imodintro
  unfold start G'
  isplitr [HZ]
  · isplitl [HG]; · iexact HG
    isplitl [Hc]; · iexact Hc
    iexact Hlev
  · iexact HZ

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ accP bfE bfP
  iintro ⟨Hs, -, Ha, Hb⟩
  isplitl [Hs]; · iexact Hs
  isplitl [Ha]; · iexact Ha
  iexact Hb

theorem phi1_exit (c : Dev nD) :
    (dats m 0 c).Φ (Fin.last cfg0.N) ⊢ iprop(unscopedSems0 c ∗ own0 (F := F) c ∗ Pipeline.scopedRest cfg0.spec c) := by
  rw [show (dats m 0 c).Φ (Fin.last cfg0.N) = Φ₁ c from rfl, scopedRest0_eq]
  unfold Φ₁ accP bfE bfP
  rw [← sems0_eq]
  iintro ⟨⟨Hd, Hb⟩, Ha, Hf⟩
  isplitl [Hb]; · iexact Hb
  isplitl [Hd]; · iexact Hd
  isplitl [Ha]; · iexact Ha
  iexact Hf

omit [FloatOps F] in
theorem stage_wait (c : Dev nD) (q : DmaSem sig) (hq : lvS (.dma q) = 0) (O : CellTallies nD τ sig Unit) (hO : O = Od c 0 ∨ O = 0) :
    (levAts L lv : sProp 𝕄) ⊢ MayWait (c : Thread nD τ) (.dma q) () O := by
  have hl : ∀ k < 20, 0 < lvp k := by decide +kernel
  rcases hO with rfl | rfl
  · exact mayWait c (.dma q) 0 0 hq.le fun k _ h => hl k h
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    stage_wait c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m 0 c).arrAt w cfg0.N

/-- What every run ends with: the operands' arrays and the result's at the computed contents, the router's as they were, and
    every semaphore at zero. -/
def QC : PUnit × MemSt nD τ sig (Elt F) → Prop := fun r =>
  (∀ c : Dev nD, (∀ w : Fin cfg0.W, r.2.mem ((cfg0.win w).arr.view.loc (c : Thread nD τ)) = finalA m c w)
    ∧ r.2.mem ((c : Thread nD τ).loc main_arg1) = m ((c : Thread nD τ).loc main_arg1)) ∧ r.2.sem = fun _ => 0

theorem router_read (c : Dev nD) (s' : Phys nD τ sig (Elt F)) :
    iprop(unscopedSems0 c ∗ Zr m c ∗ SI s')
      ⊢ |={Set.univ}=> iprop(⌜(∀ sm : SemLoc sig, sm.isScoped .tc = false → s'.mem.sem ((c.tc : Thread nD τ), sm) = 0)
          ∧ s'.mem.mem ((c : Thread nD τ).loc main_arg1) = m ((c : Thread nD τ).loc main_arg1)⌝ ∗ (SI s' : sProp 𝕄)) := by
  unfold Zr
  iintro ⟨Hu, HZ, HSI⟩
  icombine HSI HZ gives %hz
  imod (Pipeline.unscopedSems0_read (X := unscopedSems0 c) (c := c) fupd_intro s') $$ [Hu HSI] with ⟨%h, HSI⟩
  · isplitl [Hu] <;> iassumption
  imodintro
  isplitr
  · ipureintro
    exact ⟨h, funext fun i => hz i (Finset.mem_univ i)⟩
  iexact HSI

set_option maxRecDepth 8000 in
/-- From any memory with every semaphore at zero every fair run of the sixteen devices ends, with `QC`. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cube m) $$ HX with HG
      imodintro
      isplitl [HP] <;> iassumption)
    (hglob := glob m)
    (hA := fun _ _ => rfl) (hpf := fun _ k => k.elim0)
    (X := start m) (Y := fun c => unscopedSems0 c) (Z := Zr m)
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := router_read m)
    (hQ := fun _ h hs => ⟨fun c => ⟨(h c).1, (h c).2.2.2⟩, sem_eq_zero hs fun c => (h c).2.2.1⟩)

end Cert.KernelIdeal.Cube

end
-- ==== Proof.Final.lean ====
/- What every run of the kernel's program ends with. -/
module

public import proofs.«01_k».proof.Proof.Launch
public import Idealize.ShloMosaic.Lib.Pipeline.ValueKit.Geometry

@[expose] public section

noncomputable section

namespace Cert.KernelIdeal.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 33 → ℕ)

variable (ρ : Dev nD → PrngReg)

/-- The result's array ends at the computed contents: its one block is the whole of it. -/
theorem final_out (c : Dev nD) : finalA m c (3 : Fin 4) = outC m := by
  unfold finalA
  exact (dats m 0 c).arrAt_eq_of_after_last (3 : Fin 4) t0_0 (by decide +kernel) (outC m) (fun j => rfl)

/-- What a run ends with, array by array. -/
theorem run_ends : θ_run defs (onTc (τ := τ) (main (F := F))) ⟨m, fun _ => 0, ρ⟩ (fun r => (∀ c : Dev nD,
      r.2.mem ((c : Thread nD τ).loc main_v1) = outC m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run defs _ _).mono (fun _ h => ⟨fun c => ⟨((h.1 c).1 (3 : Fin 4)).trans (final_out m c),
    ((h.1 c).1 (0 : Fin 4)).trans ((dats m 0 c).arrAt_in (0 : Fin 4) rfl _), (h.1 c).2,
    ((h.1 c).1 (1 : Fin 4)).trans ((dats m 0 c).arrAt_in (1 : Fin 4) rfl _),
    ((h.1 c).1 (2 : Fin 4)).trans ((dats m 0 c).arrAt_in (2 : Fin 4) rfl _)⟩, h.2⟩) (run_main m ρ)

end Cert.KernelIdeal.Cube

end
-- ==== Proof.Frames.lean ====
/- The three programs run, leave their arguments as they were and every semaphore at zero. -/
module

public import proofs.«01_k».proof.Defs
public import proofs.«01_k».proof.Proof.Gen.Kernel
public import proofs.«01_k».proof.Proof.Gen.ReferenceIdeal.Run
public import proofs.«01_k».proof.Proof.Final

@[expose] public section

noncomputable section

namespace Cert.Proof

open Idealize.ShloMosaic Idealize.SL.Sem

/-- The two programs have the same text, so the same body table. -/
theorem defs₀_eq : Cert.Kernel.defs₀ (F := Bits) = Cert.KernelIdeal.defs₀ (F := Bits) := by
  unfold Cert.Kernel.defs₀ Cert.KernelIdeal.defs₀
  congr 1
  funext l x
  match l, x with
  | 0, (t, s) => dsimp only; rfl
  | ⟨_ + 1, h⟩, _ => exact absurd h (Nat.not_lt.2 (Nat.le_add_left _ _))
theorem defs_eq : Cert.Kernel.defs (F := Bits) = Cert.KernelIdeal.defs (F := Bits) := congrArg (Pipeline.defs Cert.KernelIdeal.pcfgs) defs₀_eq

/-- What every run of the kernel at the ideal program's body table ends with, its own runs end with. -/
theorem run_kernel (m : (ℓ : Loc Cert.Kernel.nD Cert.Kernel.τ Cert.Kernel.sig) → Buf (Elt Bits) ℓ) (ρ : Dev Cert.Kernel.nD → PrngReg)
    (Q : PUnit × MemSt Cert.Kernel.nD Cert.Kernel.τ Cert.Kernel.sig (Elt Bits) → Prop)
    (h : θ_run (Cert.KernelIdeal.defs (F := Bits)) (onTc (τ := Cert.KernelIdeal.τ) (Cert.KernelIdeal.main (F := Bits))) ⟨m, fun _ => 0, ρ⟩ Q) :
    θ_run (Cert.Kernel.defs (F := Bits)) (onTc (τ := Cert.Kernel.τ) (Cert.Kernel.main (F := Bits))) ⟨m, fun _ => 0, ρ⟩ Q := by
  rw [defs_eq]
  exact h

theorem frame_kernel : Cert.quiescent_Kernel (hKernel := Cert.Kernel.Gen.facts) := fun m ρ _ =>
  run_kernel m ρ _ ((θ_run Cert.KernelIdeal.defs _ _).mono (fun _ h => ⟨fun c => (h.1 c).2, h.2⟩) (Cert.KernelIdeal.Cube.run_ends (F := Bits) m ρ))

theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Cube.run_ends (F := Ideal) m ρ)

theorem frame_reference : Cert.quiescent_ReferenceIdeal (hReferenceIdeal := Cert.ReferenceIdeal.Gen.facts) := fun m ρ _ =>
  (θ_run Cert.ReferenceIdeal.defs _ _).mono (fun _ h => ⟨fun c => (h c).2, sem_eq_zero_of_no_sems (by decide) _⟩)
    (Cert.ReferenceIdeal.Value.run (F := Ideal) m ρ)

end Cert.Proof

end
-- ==== Proof.Values.lean ====
/- What the kernel's output holds over the reals: at each token and column, the sum over the devices of their partial
   products, each a masked product with the device's own two experts. -/
module

public import proofs.«01_k».proof.Proof.Contents
public import Idealize.ShloMosaic.Lib.MatmulPlain
public import Idealize.ShloMosaic.Lib.ValueIdx
public import Idealize.ShloMosaic.Lib.Pipeline.Value

@[expose] public section

noncomputable section

namespace Cert.KernelIdeal.Cube

open Cert.KernelIdeal Cert.KernelIdeal.Gen
open Idealize.ShloMosaic Idealize.ShloMosaic.ValueIdx
open Idealize.ShloMosaic.TcCoe
open scoped BigOperators

/-! ## One device's partial product -/

/-- The mask the kernel multiplies by, at one token: one where the token's route is the expert's word, else zero. -/
theorem mask_apply (r : IVec S512x1 32) (e : BitVec 32) (j : S512x1.Idx) :
    (sitofp .f32 (extui 32 (cmpi .eq r (broadcast S512x1 e)) natLt_1_32) : FVec Ideal S512x1 .f32) j = if r j = e then (1 : EReal) else 0 := by
  show ((((BitVec.ofBool (r j == e)).setWidth 32).toInt : ℝ) : EReal) = _
  by_cases h : r j = e
  · rw [if_pos h, h]; simp
  · rw [if_neg h, beq_eq_false_iff_ne.2 h]; simp

/-- The masked tokens, at one token and feature. -/
theorem masked_apply (r : IVec S512x1 32) (x : FVec Ideal S512x256 .f32) (e : BitVec 32) (i : Fin 512) (k : Fin 256) :
    mulf x (broadcastTo S512x256 (sitofp .f32 (extui 32 (cmpi .eq r (broadcast S512x1 e)) natLt_1_32)) broadcasts_S512x1_S512x256) (ix2 i k)
      = if r (ix2 i 0) = e then x (ix2 i k) else (0 : EReal) := by
  rw [ValueIdx.mulf_apply, broadcastTo_apply _ _ _ (ix2 i (0 : Fin 1)) (fun a => match a with | ⟨0, _⟩ => rfl | ⟨1, _⟩ => rfl), mask_apply]
  split
  · exact mul_one _
  · exact mul_zero _

/-- The masked tokens times an expert: the token's product where it is routed there, else zero. -/
theorem product_apply (r : IVec S512x1 32) (x : FVec Ideal S512x256 .f32) (e : BitVec 32) (w : FVec Ideal S1x256x512 .f32) (i j : Fin 512) :
    matmul dot_S512x256_S256x512_S512x512_1_0_0_1_n_n none
        (mulf x (broadcastTo S512x256 (sitofp .f32 (extui 32 (cmpi .eq r (broadcast S512x1 e)) natLt_1_32)) broadcasts_S512x1_S512x256))
        (shapeCast S256x512 w shapeCasts_S1x256x512_S256x512) (constant S512x512 .f32 0x00000000#32) (ix2 i j)
      = if r (ix2 i 0) = e then ∑ k : Fin 256, x (ix2 i k) * w (ix3 0 k j) else (0 : EReal) := by
  refine (Ideal.matmul_plain_apply none _ _ _ i j).trans ?_
  rw [ValueIdx.constant_apply, Ideal.ofBits_zero_f32, zero_add]
  have hw : ∀ k : Fin 256, shapeCast S256x512 w shapeCasts_S1x256x512_S256x512 (ix2 k j) = w (ix3 0 k j) := fun k => by
    refine shapeCast_apply _ _ _ (ix3 (0 : Fin 1) k j) ?_
    rw [Shape.rowMajor_val_three, Shape.rowMajor_val_two]
    show (0 * 256 + k.val) * 512 + j.val = k.val * 512 + j.val
    omega
  simp only [masked_apply, hw]
  split
  · rfl
  · exact Finset.sum_eq_zero fun k _ => zero_mul _

/-- The experts' words. -/
theorem word0 : ∀ c : Dev nD, Scalar.addi (Scalar.muli (vid c) 2#32) 0#32 = BitVec.ofNat 32 (2 * c.val) := by decide +kernel
theorem word1 : ∀ c : Dev nD, Scalar.addi (Scalar.muli (vid c) 2#32) 1#32 = BitVec.ofNat 32 (2 * c.val + 1) := by decide +kernel

theorem pay3_apply (r : Vec Ideal S512x1 .i32) (j : S512x1.Idx) : k0_pay3 (F := Ideal) r j = r j := shapeCast_apply _ _ _ _ rfl
theorem pay4_apply (x : Vec Ideal S512x256 .f32) (j : S512x256.Idx) : k0_pay4 (F := Ideal) x j = x j := shapeCast_apply _ _ _ _ rfl

variable (m : (ℓ : Loc nD τ sig) → Buf (Elt Ideal) ℓ)

/-! ## The staged arrays are the arguments -/

/-- A device's tokens, routes and experts as functions into the reals and the words. -/
def xA (c : Dev nD) : S512x256.Idx → EReal := m ((c : Thread nD τ).loc main_arg0)
def rA (c : Dev nD) : S512x1.Idx → BitVec 32 := m ((c : Thread nD τ).loc main_arg2)
def wA (c : Dev nD) : S2x256x512.Idx → EReal := m ((c : Thread nD τ).loc main_arg3)

theorem xs_eq (c : Dev nD) : xs m c = xA m c := by
  funext i
  exact congrArg (xA m c) (funext fun a => Fin.ext (Pipeline.Window.rect_emb_val_of_index_zero win0_0 (0 : Fin 1) a (by revert a; decide +kernel) i))
theorem rs_eq (c : Dev nD) : rs m c = rA m c := by
  funext i
  exact congrArg (rA m c) (funext fun a => Fin.ext (Pipeline.Window.rect_emb_val_of_index_zero win0_1 (0 : Fin 1) a (by revert a; decide +kernel) i))
theorem ws_eq (c : Dev nD) : ws m c = wA m c := by
  funext i
  exact congrArg (wA m c) (funext fun a => Fin.ext (Pipeline.Window.rect_emb_val_of_index_zero win0_2 (0 : Fin 1) a (by revert a; decide +kernel) i))
theorem w0_apply (c : Dev nD) (k : Fin 256) (j : Fin 512) : w0 m c (ix3 0 k j) = wA m c (ix3 0 k j) := by
  unfold w0
  rw [ws_eq]
  refine congrArg (wA m c) (funext fun a => Fin.ext ?_)
  refine (ValueKit.rect_emb_unit_val (s := S2x256x512) ![0, 0, 0] S1x256x512.size inb_S2x256x512_S1x256x512_0_0_0 (ix3 0 k j) a).trans ?_
  match a with
  | ⟨0, _⟩ => rfl
  | ⟨1, _⟩ => exact Nat.zero_add _
  | ⟨2, _⟩ => exact Nat.zero_add _
theorem w1_apply (c : Dev nD) (k : Fin 256) (j : Fin 512) : w1 m c (ix3 0 k j) = wA m c (ix3 1 k j) := by
  unfold w1
  rw [ws_eq]
  refine congrArg (wA m c) (funext fun a => Fin.ext ?_)
  refine (ValueKit.rect_emb_unit_val (s := S2x256x512) ![1, 0, 0] S1x256x512.size inb_S2x256x512_S1x256x512_1_0_0 (ix3 0 k j) a).trans ?_
  match a with
  | ⟨0, _⟩ => rfl
  | ⟨1, _⟩ => exact Nat.zero_add _
  | ⟨2, _⟩ => exact Nat.zero_add _

/-- Device `c`'s partial product at one token and column, over the reals. -/
def partR (c : Dev nD) (i j : Fin 512) : EReal :=
  (if rA m c (ix2 i 0) = BitVec.ofNat 32 (2 * c.val) then ∑ k : Fin 256, xA m c (ix2 i k) * wA m c (ix3 0 k j) else 0)
    + (if rA m c (ix2 i 0) = BitVec.ofNat 32 (2 * c.val + 1) then ∑ k : Fin 256, xA m c (ix2 i k) * wA m c (ix3 1 k j) else 0)

theorem part_apply (c : Dev nD) (i j : Fin 512) : part m c (ix2 i j) = partR m c i j := by
  unfold part k0_pay7 k0_pay6
  dsimp only
  rw [ValueIdx.truncf_apply, ValueIdx.addf_apply, ValueIdx.addf_apply, product_apply, product_apply, word0, word1]
  have h5 : (k0_pay5 (F := Ideal)) (ix2 i j) = (0 : EReal) := Ideal.ofBits_zero_f32
  rw [h5, zero_add]
  simp only [pay3_apply, pay4_apply, w0_apply, w1_apply, xs_eq, rs_eq]
  rfl

/-! ## The sum over the devices -/

/-- The device reached from `d` by the partners of the steps whose bit of `s` is set. -/
def reach (f : ℕ) (d : Dev nD) (s : Fin 16) : Dev nD :=
  (if s.val / 8 % 2 = 1 then pr 0 f else id) ((if s.val / 4 % 2 = 1 then pr 1 f else id)
    ((if s.val / 2 % 2 = 1 then pr 2 f else id) ((if s.val % 2 = 1 then pr 3 f else id) d)))

/-- The steps' partners reach every device once. -/
theorem reach_bijective : ∀ f < 2, ∀ d : Dev nD, Function.Bijective (reach f d) := by decide +kernel

/-- Four steps from any device leave the sum over the devices. -/
theorem four_steps (G : ℕ → Dev nD → EReal) (f : ℕ) (hf : f < 2) (hG : ∀ t d, G (t + 1) d = G t d + G t (pr t f d)) (d : Dev nD) :
    G 4 d = ∑ c : Dev nD, G 0 c := by
  rw [← (Equiv.ofBijective _ (reach_bijective f hf d)).sum_comp (G 0)]
  simp only [Fin.sum_univ_succ, Equiv.ofBijective_apply, hG, Fin.sum_univ_zero]
  simp [reach, Fin.succ]
  ac_rfl

theorem St_four (i : S2x512x256.Idx) (hi : (i 0).val < 2) (d : Dev nD) : St m 4 d i = ∑ c : Dev nD, (St m 0 c i : EReal) :=
  four_steps (fun t c => St m t c i) (i 0).val hi (fun _ _ => rfl) d

/-- The output at one token and column: the sum of the devices' partial products. -/
theorem outC_apply (i j : Fin 512) : outC m (ix2 i j) = ∑ c : Dev nD, partR m c i j := by
  have hi := i.isLt
  have hj := j.isLt
  have hf : j.val / 256 < 2 := by omega
  have hv := virt_lt (j.val / 256) hf (i.val / 32) (by omega)
  refine (St_four m _ (by rw [aI_0 hf]; exact hf) _).trans (Finset.sum_congr rfl fun c _ => ?_)
  rw [← part_apply]
  show part m c _ = part m c _
  refine congrArg (part m c) ?_
  have h0 : ((aI (j.val / 256) (32 * virt (j.val / 256) (i.val / 32) + i.val % 32) (j.val % 256)) 0).val = j.val / 256 := aI_0 hf
  have h1 : ((aI (j.val / 256) (32 * virt (j.val / 256) (i.val / 32) + i.val % 32) (j.val % 256)) 1).val = 32 * virt (j.val / 256) (i.val / 32) + i.val % 32 := aI_1 (by omega)
  have h2 : ((aI (j.val / 256) (32 * virt (j.val / 256) (i.val / 32) + i.val % 32) (j.val % 256)) 2).val = j.val % 256 := aI_2 (by omega)
  show pI (32 * ivirt ((aI _ _ _) 0).val (((aI _ _ _) 1).val / 32) + ((aI _ _ _) 1).val % 32) (256 * ((aI _ _ _) 0).val + ((aI _ _ _) 2).val) = _
  refine pI_ext ?_ ?_
  · show i.val = _
    rw [h0, h1, show (32 * virt (j.val / 256) (i.val / 32) + i.val % 32) / 32 = virt (j.val / 256) (i.val / 32) by omega,
      ivirt_virt _ hf _ (by omega)]
    omega
  · show j.val = _
    rw [h0, h2]
    omega

end Cert.KernelIdeal.Cube

end
-- ==== Proof.Reference.lean ====
/- What the reference's output holds over the reals: at each token and column, the sum over the experts of the masked
   products, whatever the token's route word. -/
module

public import proofs.«01_k».proof.Proof.Gen.ReferenceIdeal
public import Idealize.ShloMosaic.Lib.ValueIdx
public import Idealize.ShloMosaic.Lib.IdealHost
public import Idealize.ShloMosaic.Lib.Pipeline.Value

@[expose] public section

noncomputable section

namespace Cert.ReferenceIdeal.Value

open Cert.ReferenceIdeal Cert.ReferenceIdeal.Gen
open Idealize.ShloMosaic Idealize.ShloMosaic.ValueIdx
open scoped BigOperators

/-- The gather of one expert per token. -/
abbrev gd := gather_S32x256x512_S512x1_S512x256x512_12_0_n_n_0_1_1256512

/-- The gather of one expert per token, read at an index: the expert the token's start index names, read signed and
    clamped to the experts there are. -/
theorem gather_apply (x : S32x256x512.Idx → EReal) (idx : IVec S512x1 32) (i : Fin 512) (k : Fin 256) (j : Fin 512) :
    Host.gather gd x idx (ix3 i k j) = x (ix3 ⟨min (idx (ix2 i 0)).toInt.toNat 31, by omega⟩ k j) := by
  unfold Host.gather
  congr 1
  funext a
  refine Fin.ext ?_
  show GatherDims.start gd (ix3 i k j) idx a + GatherDims.batchCoord gd (ix3 i k j) a + GatherDims.offCoord gd (ix3 i k j) a = _
  rw [GatherDims.batchCoord_eq_zero _ _ _ List.not_mem_nil]
  have h : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ GatherDims.startIndexMap gd from List.mem_singleton.mpr rfl)]
    have hsi : GatherDims.siIdx gd (ix3 i k j) ⟨List.idxOf (0 : Fin 3) (GatherDims.startIndexMap gd),
        List.idxOf_lt_length_iff.2 (List.mem_singleton.mpr rfl)⟩ = ix2 i 0 := by
      funext b; refine Fin.ext ?_
      match b with
      | ⟨0, _⟩ => rfl
      | ⟨1, _⟩ => rfl
    rw [hsi]
    rfl
  · have hs : GatherDims.start gd (ix3 i k j) idx (1 : Fin 3) = 0 := by
      unfold GatherDims.start
      exact dif_neg (show ¬ (1 : Fin 3) ∈ ([0] : List (Fin 3)) by decide)
    have ho : GatherDims.offCoord gd (ix3 i k j) (1 : Fin 3) = k.val := by
      unfold GatherDims.offCoord
      refine (dif_pos ((GatherDims.mem_sKept _ _).mpr ⟨show ¬ (1 : Fin 3) ∈ ([0] : List (Fin 3)) by decide, List.not_mem_nil⟩)).trans ?_
      rfl
    rw [hs, ho]
    exact (Nat.zero_add _).trans rfl
  · have hs : GatherDims.start gd (ix3 i k j) idx (2 : Fin 3) = 0 := by
      unfold GatherDims.start
      exact dif_neg (show ¬ (2 : Fin 3) ∈ ([0] : List (Fin 3)) by decide)
    have ho : GatherDims.offCoord gd (ix3 i k j) (2 : Fin 3) = j.val := by
      unfold GatherDims.offCoord
      refine (dif_pos ((GatherDims.mem_sKept _ _).mpr ⟨show ¬ (2 : Fin 3) ∈ ([0] : List (Fin 3)) by decide, List.not_mem_nil⟩)).trans ?_
      rfl
    rw [hs, ho]
    exact (Nat.zero_add _).trans rfl

/-- The product of each token with its own matrix, read at an index. -/
theorem dot_apply (A : FVec Ideal S512x256 .f32) (B : FVec Ideal S512x256x512 .f32) (i j : Fin 512) :
    Host.dotGeneral dot_S512x256_S512x256x512_S512x512_1_1_n_2_0_0 none A B (ix2 i j) = ∑ k : Fin 256, A (ix2 i k) * B (ix3 i k j) := by
  show FloatOps.dotGeneral _ none _ A B (ix2 i j) = _
  rw [Ideal.dotGeneral_apply, ← Equiv.sum_comp (contrEquiv1 dot_S512x256_S512x256x512_S512x512_1_1_n_2_0_0 256 rfl rfl).symm]
  refine Finset.sum_congr rfl fun k _ => ?_
  have hk := contrEquiv1_symm_val dot_S512x256_S512x256x512_S512x512_1_1_n_2_0_0 256 rfl rfl k
  have el : (dot_S512x256_S512x256x512_S512x512_1_1_n_2_0_0).lhsIdx (ix2 i j) ((contrEquiv1 _ 256 rfl rfl).symm k) = ix2 i k := by
    funext a; apply Fin.ext
    match a with
    | ⟨0, _⟩ => rfl
    | ⟨1, _⟩ => exact hk
  have er : (dot_S512x256_S512x256x512_S512x512_1_1_n_2_0_0).rhsIdx (ix2 i j) ((contrEquiv1 _ 256 rfl rfl).symm k) = ix3 i k j := by
    funext a; apply Fin.ext
    match a with
    | ⟨0, _⟩ => rfl
    | ⟨1, _⟩ => exact hk
    | ⟨2, _⟩ => rfl
  rw [el, er]

/-! ## The route words -/

/-- The word the reference looks an expert up by: clamped to the experts there are, then wrapped where negative. -/
def lookup (r : BitVec 32) : BitVec 32 :=
  let v := Scalar.minsi 31#32 (Scalar.maxsi 0#32 r)
  Scalar.select (Scalar.cmpi .slt v 0#32) (Scalar.addi v 32#32) v
/-- Whether a word names an expert. -/
def named (r : BitVec 32) : BitVec 1 := Scalar.andi (Scalar.cmpi .sge r 0#32) (Scalar.cmpi .slt r 32#32)

/-- The words of the experts name them, and look up themselves. -/
theorem named_word : ∀ e : Fin 32, named (BitVec.ofNat 32 e.val) = 1#1 ∧ min (lookup (BitVec.ofNat 32 e.val)).toInt.toNat 31 = e.val := by decide +kernel
/-- A word that names an expert is its word. -/
theorem named_only (r : BitVec 32) (h : named r = 1#1) : ∃ e : Fin 32, r = BitVec.ofNat 32 e.val := by
  have h1 : r.toNat < 32 := by
    have h' : (0#32).sle r = true ∧ r.slt 32#32 = true := by
      revert h
      show BitVec.ofBool ((0#32).sle r) &&& BitVec.ofBool (r.slt 32#32) = 1#1 → _
      cases (0#32).sle r <;> cases r.slt 32#32 <;> simp
    have a1 := BitVec.sle_iff_toInt_le.mp h'.1
    have a2 := BitVec.slt_iff_toInt_lt.mp h'.2
    have z : (0#32).toInt = 0 := by decide
    have t : (32#32).toInt = 32 := by decide
    rw [z] at a1; rw [t] at a2
    have b := BitVec.toInt_eq_toNat_cond r
    have c := r.isLt
    split at b <;> omega
  exact ⟨⟨r.toNat, h1⟩, by simp⟩

/-- The expert a word looks up, clamped. -/
def expert (r : BitVec 32) : Fin 32 := ⟨min (lookup r).toInt.toNat 31, by omega⟩
theorem expert_word (e : Fin 32) : expert (BitVec.ofNat 32 e.val) = e := Fin.ext (named_word e).2
theorem word_inj : ∀ e e' : Fin 32, BitVec.ofNat 32 e.val = BitVec.ofNat 32 e'.val → e = e' := by decide +kernel

/-- The looked-up expert's value where the word names one, else zero, is the masked sum over the experts. -/
theorem routed (r : BitVec 32) (g : Fin 32 → EReal) :
    Scalar.select (named r) (g (expert r)) (0 : EReal) = ∑ e : Fin 32, if r = BitVec.ofNat 32 e.val then g e else 0 := by
  by_cases h : named r = 1#1
  · obtain ⟨e, rfl⟩ := named_only r h
    rw [expert_word, Finset.sum_eq_single e]
    · exact (if_pos h).trans (if_pos rfl).symm
    · exact fun e' _ hne => if_neg fun h' => hne (word_inj _ _ h').symm
    · exact fun h => absurd (Finset.mem_univ _) h
  · refine (if_neg h).trans (Finset.sum_eq_zero fun e _ => if_neg fun h' => h ?_).symm
    rw [h']
    exact (named_word e).1

/-! ## The output -/

/-- The words the reference looks its experts up by. -/
def lookupAll (v : IVec S512 32) : IVec S512 32 :=
  select (cmpi .slt (minsi (broadcastInDim S512 ![] bcast_S_S512 (id (constantI S_ 32 31#32))) (maxsi (broadcastInDim S512 ![] bcast_S_S512 (id (constantI S_ 32 0#32))) v)) (broadcastInDim S512 ![] bcast_S_S512 (constantI S_ 32 0#32))) (addi (minsi (broadcastInDim S512 ![] bcast_S_S512 (id (constantI S_ 32 31#32))) (maxsi (broadcastInDim S512 ![] bcast_S_S512 (id (constantI S_ 32 0#32))) v)) (broadcastInDim S512 ![] bcast_S_S512 (constantI S_ 32 32#32))) (minsi (broadcastInDim S512 ![] bcast_S_S512 (id (constantI S_ 32 31#32))) (maxsi (broadcastInDim S512 ![] bcast_S_S512 (id (constantI S_ 32 0#32))) v))

/-- The reference's result as its run states it. -/
def refOut (x : FVec Ideal S512x256 .f32) (r : IVec S512x1 32) (w : FVec Ideal S32x256x512 .f32) : FVec Ideal S512x512 .f32 :=
  select (broadcastInDim S512x512 ![0, 1] bcast_S512x1_S512x512_0_1 (broadcastInDim S512x1 ![0] bcast_S512_S512x1_0 (andi (cmpi .sge (shapeCast _ r shapeCasts_S512x1_S512) (broadcastInDim S512 ![] bcast_S_S512 (constantI S_ 32 0#32))) (cmpi .slt (shapeCast _ r shapeCasts_S512x1_S512) (broadcastInDim S512 ![] bcast_S_S512 (constantI S_ 32 32#32)))))) (Host.dotGeneral dot_S512x256_S512x256x512_S512x512_1_1_n_2_0_0 none x (Host.gather gather_S32x256x512_S512x1_S512x256x512_12_0_n_n_0_1_1256512 w (broadcastInDim S512x1 ![0] bcast_S512_S512x1_0 (lookupAll (shapeCast _ r shapeCasts_S512x1_S512))))) (broadcastInDim S512x512 ![] bcast_S_S512x512 (id (constant S_ .f32 0x00000000#32)))

/-- The output at one token and column: the masked products summed over the experts. -/
theorem refOut_apply (x : FVec Ideal S512x256 .f32) (r : IVec S512x1 32) (w : FVec Ideal S32x256x512 .f32) (i j : Fin 512) :
    refOut x r w (ix2 i j)
      = ∑ e : Fin 32, if r (ix2 i 0) = BitVec.ofNat 32 e.val then ∑ k : Fin 256, x (ix2 i k) * w (ix3 e k j) else (0 : EReal) := by
  have hr : shapeCast S512 r shapeCasts_S512x1_S512 (ix1 i) = r (ix2 i 0) := by
    refine shapeCast_apply _ _ _ (ix2 i (0 : Fin 1)) ?_
    rw [Shape.rowMajor_val_two, Shape.rowMajor_val_one]
    show i.val * 1 + 0 = i.val
    omega
  unfold refOut
  rw [ValueIdx.select_apply, broadcastInDim_apply _ _ _ _ (ix2 i (0 : Fin 1)) (fun a => match a with | ⟨0, _⟩ => rfl | ⟨1, _⟩ => rfl),
    broadcastInDim_apply _ _ _ _ (ix1 i) (fun a => match a with | ⟨0, _⟩ => rfl), dot_apply]
  simp only [gather_apply]
  have hb : broadcastInDim S512x1 ![0] bcast_S512_S512x1_0 (lookupAll (shapeCast S512 r shapeCasts_S512x1_S512)) (ix2 i (0 : Fin 1))
      = lookupAll (shapeCast S512 r shapeCasts_S512x1_S512) (ix1 i) :=
    broadcastInDim_apply _ _ _ _ (ix1 i) (fun a => match a with | ⟨0, _⟩ => rfl)
  have hn : andi (cmpi .sge (shapeCast S512 r shapeCasts_S512x1_S512) (broadcastInDim S512 ![] bcast_S_S512 (constantI S_ 32 0#32)))
      (cmpi .slt (shapeCast S512 r shapeCasts_S512x1_S512) (broadcastInDim S512 ![] bcast_S_S512 (constantI S_ 32 32#32))) (ix1 i) = named (r (ix2 i 0)) := by
    rw [← hr]; rfl
  rw [hn]
  have hl : lookupAll (shapeCast S512 r shapeCasts_S512x1_S512) (ix1 i) = lookup (r (ix2 i 0)) := by
    rw [← hr]; rfl
  have hz : broadcastInDim S512x512 ![] bcast_S_S512x512 (id (constant (F := Ideal) S_ .f32 0x00000000#32)) (ix2 i j) = (0 : EReal) :=
    Ideal.ofBits_zero_f32
  rw [hz]
  simp only [hb, hl]
  exact routed (r (ix2 i 0)) (fun e => ∑ k : Fin 256, x (ix2 i k) * w (ix3 e k j))

end Cert.ReferenceIdeal.Value

end
-- ==== Proof.Algebraic.lean ====
/- Over the reals the kernel's output is the reference's, on every device. -/
module

public import proofs.«01_k».proof.Proof.Frames
public import proofs.«01_k».proof.Proof.Values
public import proofs.«01_k».proof.Proof.Reference

@[expose] public section

noncomputable section

namespace Cert.Proof

open Idealize.ShloMosaic Idealize.ShloMosaic.ValueIdx Idealize.SL.Sem
open Cert.KernelIdeal.Cube
open scoped BigOperators

/-- A sum over the experts is the sum over the devices of the sums over their own two. -/
theorem sum_experts (f : Fin 32 → EReal) :
    ∑ e : Fin 32, f e = ∑ c : Fin 16, (f ⟨2 * c.val, by omega⟩ + f ⟨2 * c.val + 1, by omega⟩) := by
  rw [← (finProdFinEquiv (m := 16) (n := 2)).sum_comp f, Fintype.sum_prod_type]
  refine Finset.sum_congr rfl fun c _ => ?_
  rw [Fin.sum_univ_two]
  refine congrArg₂ (fun a b => f a + f b) (Fin.ext ?_) (Fin.ext ?_)
  · show 0 + 2 * c.val = 2 * c.val
    omega
  · show 1 + 2 * c.val = 2 * c.val + 1
    omega

/-- The output the kernel leaves, where the devices hold the reference's tokens and routes and each its own block of the
    experts, is the reference's. -/
theorem out_eq (m : (ℓ : Loc Cert.KernelIdeal.nD Cert.KernelIdeal.τ Cert.KernelIdeal.sig) → Buf (Elt Ideal) ℓ)
    (x : FVec Ideal Cert.ReferenceIdeal.S512x256 .f32) (r : IVec Cert.ReferenceIdeal.S512x1 32) (w : FVec Ideal Cert.ReferenceIdeal.S32x256x512 .f32)
    (hx : ∀ c, xA m c = x) (hr : ∀ c, rA m c = r)
    (hw : ∀ c, wA m c = Layout.block ⟨3, ![2, 256, 512]⟩ ⟨3, ![32, 256, 512]⟩ 0 16 c w) :
    outC m = Cert.ReferenceIdeal.Value.refOut x r w := by
  funext y
  obtain ⟨i, j, rfl⟩ : ∃ i j, y = ix2 i j := ⟨y 0, y 1, eq_ix2 y⟩
  refine (outC_apply m i j).trans ((Finset.sum_congr rfl fun c _ => ?_).trans
    ((sum_experts _).symm.trans (Cert.ReferenceIdeal.Value.refOut_apply x r w i j).symm))
  have w0 : ∀ k : Fin 256, wA m c (ix3 0 k j) = w (ix3 ⟨2 * c.val, by have : c.val < 16 := c.isLt; omega⟩ k j) := fun k => by
    rw [hw]
    refine congrArg w (funext fun a => Fin.ext ?_)
    match a with
    | ⟨0, _⟩ => exact (show c.val * 2 + 0 = 2 * c.val by omega)
    | ⟨1, _⟩ => rfl
    | ⟨2, _⟩ => rfl
  have w1 : ∀ k : Fin 256, wA m c (ix3 1 k j) = w (ix3 ⟨2 * c.val + 1, by have : c.val < 16 := c.isLt; omega⟩ k j) := fun k => by
    rw [hw]
    refine congrArg w (funext fun a => Fin.ext ?_)
    match a with
    | ⟨0, _⟩ => exact (show c.val * 2 + 1 = 2 * c.val + 1 by omega)
    | ⟨1, _⟩ => rfl
    | ⟨2, _⟩ => rfl
  unfold partR
  simp only [w0, w1, hx, hr]

theorem algebraic : Cert.algebraic_KernelIdeal_ReferenceIdeal (hKernelIdeal := Cert.KernelIdeal.Gen.facts) (hReferenceIdeal := Cert.ReferenceIdeal.Gen.facts) := by
  intro m g m' g' _ h
  refine ⟨Cert.ReferenceIdeal.Value.refOut
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)), ?_, ?_⟩
  · refine (θ_run _ _ _).mono (fun _ hq c => ?_) (run_ends (F := Ideal) m g)
    obtain ⟨hv, ha⟩ := hq.1 c
    exact ⟨hv.trans (out_eq m _ _ _ (fun c => (h c).1) (fun c => (h c).2.2.1) (fun c => (h c).2.2.2)), ha⟩
  · exact (θ_run _ _ _).mono (fun _ hq => hq 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  frame_kernel, frame_ideal, frame_reference, trivial, algebraic⟩

end Cert.Proof

end
